-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .bf16 0x3DB5#16 (((Real.sqrt 128)⁻¹ : ℝ) : EReal)

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![512, 16, 8, 128]⟩ ⟨4, ![2048, 16, 8, 128]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![512, 16, 8, 128]⟩ ⟨4, ![2048, 16, 8, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  bcast_S_S8 : S_.BroadcastsInDim S8 (![] : Fin 0 → Fin S8.rank)
  bcast_S_S8x1x8x128 : S_.BroadcastsInDim S8x1x8x128 (![] : Fin 0 → Fin S8x1x8x128.rank)
  bcast_S_S512x16x8x128 : S_.BroadcastsInDim S512x16x8x128 (![] : Fin 0 → Fin S512x16x8x128.rank)

variable [Facts]

def fn {F : FTy → Type} [FloatOps F] (main_arg0 : FVec F S8x1x8x128 .bf16) (main_arg1 : FVec F S512x16x8x128 .bf16) (main_arg2 : FVec F S512x16x8x128 .bf16) (main_arg3 : IVec S8x512 32) (main_arg4 : IVec S8 32) : IVec S8x512 1 × IVec S8 1 × IVec S8x1x8x128 1 × IVec S512x16x8x128 1 :=
  let main_v0 : IVec S8x512 32 := iotaInDim S8x512 32 1
  let main_v1 : IVec S8x1 32 := broadcastInDim S8x1 ![0] bcast_S8_S8x1_0 main_arg4
  let main_v2 : IVec S8x512 32 := broadcastInDim S8x512 ![0, 1] bcast_S8x1_S8x512_0_1 main_v1
  let main_v3 : IVec S8x512 1 := cmpi .sge main_v0 main_v2
  let main_c : IVec S_ 32 := constantI S_ 32 0#32
  let main_v4 : IVec S8x512 32 := broadcastInDim S8x512 ![] bcast_S_S8x512 main_c
  let main_v5 : IVec S8x512 1 := cmpi .sge main_arg3 main_v4
  let main_c_0 : IVec S_ 32 := constantI S_ 32 2048#32
  let main_v6 : IVec S8x512 32 := broadcastInDim S8x512 ![] bcast_S_S8x512 main_c_0
  let main_v7 : IVec S8x512 1 := cmpi .slt main_arg3 main_v6
  let main_v8 : IVec S8x512 1 := andi main_v5 main_v7
  let main_v9 : IVec S8x512 1 := ori main_v3 main_v8
  let main_c_1 : IVec S_ 32 := constantI S_ 32 1#32
  let main_v10 : IVec S8 32 := broadcastInDim S8 ![] bcast_S_S8 main_c_1
  let main_v11 : IVec S8 1 := cmpi .sge main_arg4 main_v10
  let main_v12 : FVec F S8x1x8x128 .bf16 := Host.absf main_arg0
  let main_cst : FVec F S_ .bf16 := constant S_ .bf16 0x7F80#16
  let main_v13 : FVec F S8x1x8x128 .bf16 := broadcastInDim S8x1x8x128 ![] bcast_S_S8x1x8x128 main_cst
  let main_v14 : IVec S8x1x8x128 1 := cmpf .olt main_v12 main_v13
  let main_v15 : FVec F S512x16x8x128 .bf16 := Host.absf main_arg1
  let main_cst_2 : FVec F S_ .bf16 := constant S_ .bf16 0x7F80#16
  let main_v16 : FVec F S512x16x8x128 .bf16 := broadcastInDim S512x16x8x128 ![] bcast_S_S512x16x8x128 main_cst_2
  let main_v17 : IVec S512x16x8x128 1 := cmpf .olt main_v15 main_v16
  (main_v9, main_v11, main_v14, main_v17)
-- ==== Pre_in_range_ReferenceIdeal.lean ====
abbrev S8x1x8x128 : Shape := ⟨4, ![8, 1, 8, 128]⟩
abbrev S2048x16x8x128 : Shape := ⟨4, ![2048, 16, 8, 128]⟩
abbrev S8x512 : Shape := ⟨2, ![8, 512]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  bcast_S_S8 : S_.BroadcastsInDim S8 (![] : Fin 0 → Fin S8.rank)
  bcast_S_S8x1x8x128 : S_.BroadcastsInDim S8x1x8x128 (![] : Fin 0 → Fin S8x1x8x128.rank)
  bcast_S_S2048x16x8x128 : S_.BroadcastsInDim S2048x16x8x128 (![] : Fin 0 → Fin S2048x16x8x128.rank)

variable [Facts]

def fn {F : FTy → Type} [FloatOps F] (main_arg0 : FVec F S8x1x8x128 .bf16) (main_arg1 : FVec F S2048x16x8x128 .bf16) (main_arg2 : FVec F S2048x16x8x128 .bf16) (main_arg3 : IVec S8x512 32) (main_arg4 : IVec S8 32) : IVec S8x512 1 × IVec S8 1 × IVec S8x1x8x128 1 × IVec S2048x16x8x128 1 :=
  let main_v0 : IVec S8x512 32 := iotaInDim S8x512 32 1
  let main_v1 : IVec S8x1 32 := broadcastInDim S8x1 ![0] bcast_S8_S8x1_0 main_arg4
  let main_v2 : IVec S8x512 32 := broadcastInDim S8x512 ![0, 1] bcast_S8x1_S8x512_0_1 main_v1
  let main_v3 : IVec S8x512 1 := cmpi .sge main_v0 main_v2
  let main_c : IVec S_ 32 := constantI S_ 32 0#32
  let main_v4 : IVec S8x512 32 := broadcastInDim S8x512 ![] bcast_S_S8x512 main_c
  let main_v5 : IVec S8x512 1 := cmpi .sge main_arg3 main_v4
  let main_c_0 : IVec S_ 32 := constantI S_ 32 2048#32
  let main_v6 : IVec S8x512 32 := broadcastInDim S8x512 ![] bcast_S_S8x512 main_c_0
  let main_v7 : IVec S8x512 1 := cmpi .slt main_arg3 main_v6
  let main_v8 : IVec S8x512 1 := andi main_v5 main_v7
  let main_v9 : IVec S8x512 1 := ori main_v3 main_v8
  let main_c_1 : IVec S_ 32 := constantI S_ 32 1#32
  let main_v10 : IVec S8 32 := broadcastInDim S8 ![] bcast_S_S8 main_c_1
  let main_v11 : IVec S8 1 := cmpi .sge main_arg4 main_v10
  let main_v12 : FVec F S8x1x8x128 .bf16 := Host.absf main_arg0
  let main_cst : FVec F S_ .bf16 := constant S_ .bf16 0x7F80#16
  let main_v13 : FVec F S8x1x8x128 .bf16 := broadcastInDim S8x1x8x128 ![] bcast_S_S8x1x8x128 main_cst
  let main_v14 : IVec S8x1x8x128 1 := cmpf .olt main_v12 main_v13
  let main_v15 : FVec F S2048x16x8x128 .bf16 := Host.absf main_arg1
  let main_cst_2 : FVec F S_ .bf16 := constant S_ .bf16 0x7F80#16
  let main_v16 : FVec F S2048x16x8x128 .bf16 := broadcastInDim S2048x16x8x128 ![] bcast_S_S2048x16x8x128 main_cst_2
  let main_v17 : IVec S2048x16x8x128 1 := cmpf .olt main_v15 main_v16
  (main_v9, main_v11, main_v14, main_v17)
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S64x16x8x128 : Shape := ⟨4, ![64, 16, 8, 128]⟩
abbrev S64x8192 : Shape := ⟨2, ![64, 8192]⟩
abbrev S64x1 : Shape := ⟨2, ![64, 1]⟩
abbrev S64x128 : Shape := ⟨2, ![64, 128]⟩
abbrev S4x64x128 : Shape := ⟨3, ![4, 64, 128]⟩
abbrev S4x64x2 : Shape := ⟨3, ![4, 64, 2]⟩
abbrev S4 : Shape := ⟨1, ![4]⟩
abbrev S8x1 : Shape := ⟨2, ![8, 1]⟩
abbrev S1x64x1 : Shape := ⟨3, ![1, 64, 1]⟩
abbrev S1x1x512 : Shape := ⟨3, ![1, 1, 512]⟩
abbrev S8x1x512 : Shape := ⟨3, ![8, 1, 512]⟩
abbrev S8x64x512 : Shape := ⟨3, ![8, 64, 512]⟩
abbrev S8x1x1 : Shape := ⟨3, ![8, 1, 1]⟩
abbrev S8x64 : Shape := ⟨2, ![8, 64]⟩
abbrev S8x64x1 : Shape := ⟨3, ![8, 64, 1]⟩
abbrev S8x64x128 : Shape := ⟨3, ![8, 64, 128]⟩
abbrev S8x8192 : Shape := ⟨2, ![8, 8192]⟩
abbrev S8x1x8192 : Shape := ⟨3, ![8, 1, 8192]⟩
abbrev S8x8x8192 : Shape := ⟨3, ![8, 8, 8192]⟩
abbrev S8192x128 : Shape := ⟨2, ![8192, 128]⟩
abbrev S64 : Shape := ⟨1, ![64]⟩
abbrev S_ : Shape := ⟨0, ![]⟩
abbrev S1x64x128 : Shape := ⟨3, ![1, 64, 128]⟩
abbrev S64x2 : Shape := ⟨2, ![64, 2]⟩
abbrev S1x64x2 : Shape := ⟨3, ![1, 64, 2]⟩
abbrev S1 : Shape := ⟨1, ![1]⟩
abbrev S4x64x1 : Shape := ⟨3, ![4, 64, 1]⟩

abbrev nBuf : Space → Nat
  | .hbm => 6
  | .vmem => 14
  | .smem => 0
  | _ => 0

abbrev bufTy : (tb : Table) → Fin (tcTables nBuf tb) → BufTy
  | .hbm, ⟨0, _⟩ => ⟨S8x1x8x128, .bf16⟩
  | .hbm, ⟨1, _⟩ => ⟨S512x16x8x128, .bf16⟩
  | .hbm, ⟨2, _⟩ => ⟨S512x16x8x128, .bf16⟩
  | .hbm, ⟨3, _⟩ => ⟨S8x512, .i32⟩
  | .hbm, ⟨4, _⟩ => ⟨S8, .i32⟩
  | .hbm, ⟨5, _⟩ => ⟨S8x1x8x128, .f32⟩
  | .local _ .vmem, ⟨0, _⟩ => ⟨S8x1x8x128, .bf16⟩
  | .local _ .vmem, ⟨1, _⟩ => ⟨S64x16x8x128, .bf16⟩
  | .local _ .vmem, ⟨2, _⟩ => ⟨S64x16x8x128, .bf16⟩
  | .local _ .vmem, ⟨3, _⟩ => ⟨S64x16x8x128, .bf16⟩
  | .local _ .vmem, ⟨4, _⟩ => ⟨S64x16x8x128, .bf16⟩
  | .local _ .vmem, ⟨5, _⟩ => ⟨S8x512, .i32⟩
  | .local _ .vmem, ⟨6, _⟩ => ⟨S8, .i32⟩
  | .local _ .vmem, ⟨7, _⟩ => ⟨S8x1x8x128, .f32⟩
  | .local _ .vmem, ⟨8, _⟩ => ⟨S64x8192, .f32⟩
  | .local _ .vmem, ⟨9, _⟩ => ⟨S64x1, .f32⟩
  | .local _ .vmem, ⟨10, _⟩ => ⟨S64x1, .f32⟩
  | .local _ .vmem, ⟨11, _⟩ => ⟨S64x128, .f32⟩
  | .local _ .vmem, ⟨12, _⟩ => ⟨S4x64x128, .f32⟩
  | .local _ .vmem, ⟨13, _⟩ => ⟨S4x64x2, .f32⟩
  | _, _ => ⟨S8x1x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev barrier0 : Sem sig := 0

abbrev nD : Nat := 4
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v90 : BitVec 1 := Scalar.cmpi .eq arg0 c7_i32
  let v91 : BitVec 32 := Scalar.extui v90
  let c0_i32_37 : BitVec 32 := 0#32
  let v92 : BitVec 1 := Scalar.cmpi .ne v91 c0_i32_37
  v92

def k0_dev1 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v94 : BitVec 32 := Scalar.addi v2 c1_i32_38
  let c4_i32_39 : BitVec 32 := 4#32
  let c0_i32_40 : BitVec 32 := 0#32
  let v95 : BitVec 1 := Scalar.cmpi .eq c4_i32_39 c0_i32_40
  let c1_i32_41 : BitVec 32 := 1#32
  let v96 : BitVec 32 := Scalar.select v95 c1_i32_41 c4_i32_39
  let v97 : BitVec 32 := Scalar.remsi v94 v96
  let c0_i32_43 : BitVec 32 := 0#32
  let v99 : BitVec 1 := Scalar.cmpi .slt v97 c0_i32_43
  let c0_i32_44 : BitVec 32 := 0#32
  let v100 : BitVec 1 := Scalar.cmpi .slt v96 c0_i32_44
  let v101 : BitVec 1 := Scalar.xori v99 v100
  let c0_i32_42 : BitVec 32 := 0#32
  let v98 : BitVec 1 := Scalar.cmpi .ne v97 c0_i32_42
  let v102 : BitVec 1 := Scalar.andi v101 v98
  let v103 : BitVec 32 := Scalar.addi v97 v96
  let v104 : BitVec 32 := Scalar.select v102 v103 v97
  let c1_i32_46 : BitVec 32 := 1#32
  let v105 : BitVec 32 := Scalar.muli v104 c1_i32_46
  let v106 : BitVec 32 := Scalar.addi c0_i32_47 v105
  v106.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v107 : BitVec 32 := Scalar.addi v2 c2_i32
  let c4_i32_48 : BitVec 32 := 4#32
  let c0_i32_49 : BitVec 32 := 0#32
  let v108 : BitVec 1 := Scalar.cmpi .eq c4_i32_48 c0_i32_49
  let c1_i32_50 : BitVec 32 := 1#32
  let v109 : BitVec 32 := Scalar.select v108 c1_i32_50 c4_i32_48
  let v110 : BitVec 32 := Scalar.remsi v107 v109
  let c0_i32_52 : BitVec 32 := 0#32
  let v112 : BitVec 1 := Scalar.cmpi .slt v110 c0_i32_52
  let c0_i32_53 : BitVec 32 := 0#32
  let v113 : BitVec 1 := Scalar.cmpi .slt v109 c0_i32_53
  let v114 : BitVec 1 := Scalar.xori v112 v113
  let c0_i32_51 : BitVec 32 := 0#32
  let v111 : BitVec 1 := Scalar.cmpi .ne v110 c0_i32_51
  let v115 : BitVec 1 := Scalar.andi v114 v111
  let v116 : BitVec 32 := Scalar.addi v110 v109
  let v117 : BitVec 32 := Scalar.select v115 v116 v110
  let c1_i32_55 : BitVec 32 := 1#32
  let v118 : BitVec 32 := Scalar.muli v117 c1_i32_55
  let v119 : BitVec 32 := Scalar.addi c0_i32_56 v118
  v119.toNat
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v120 : BitVec 32 := Scalar.addi v2 c3_i32
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v120 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c1_i32_64 : BitVec 32 := 1#32
  let v131 : BitVec 32 := Scalar.muli v130 c1_i32_64
  let v132 : BitVec 32 := Scalar.addi c0_i32_65 v131
  v132.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v135 : Index := Scalar.indexCast v2
  let c0_69 : Index := 0#32
  let c0_70 : Index := 0#32
  ![v135.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v143 : Index := Scalar.indexCast v2
  let c0_75 : Index := 0#32
  let c0_76 : Index := 0#32
  ![v143.toNat, 0, 0]
def k0_off3 (d0 : Dev nD) (c1_i32_77 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v147 : BitVec 32 := Scalar.addi v2 c1_i32_77
  let c4_i32_78 : BitVec 32 := 4#32
  let c0_i32_79 : BitVec 32 := 0#32
  let v148 : BitVec 1 := Scalar.cmpi .eq c4_i32_78 c0_i32_79
  let c1_i32_80 : BitVec 32 := 1#32
  let v149 : BitVec 32 := Scalar.select v148 c1_i32_80 c4_i32_78
  let v150 : BitVec 32 := Scalar.remsi v147 v149
  let c0_i32_82 : BitVec 32 := 0#32
  let v152 : BitVec 1 := Scalar.cmpi .slt v150 c0_i32_82
  let c0_i32_83 : BitVec 32 := 0#32
  let v153 : BitVec 1 := Scalar.cmpi .slt v149 c0_i32_83
  let v154 : BitVec 1 := Scalar.xori v152 v153
  let c0_i32_81 : BitVec 32 := 0#32
  let v151 : BitVec 1 := Scalar.cmpi .ne v150 c0_i32_81
  let v155 : BitVec 1 := Scalar.andi v154 v151
  let v156 : BitVec 32 := Scalar.addi v150 v149
  let v157 : BitVec 32 := Scalar.select v155 v156 v150
  ![v157.toNat]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let c0_i32_87 : BitVec 32 := 0#32
  ![v2.toNat, 0, 0]
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v147 : BitVec 32 := Scalar.addi v2 c1_i32_77
  let c4_i32_78 : BitVec 32 := 4#32
  let c0_i32_79 : BitVec 32 := 0#32
  let v148 : BitVec 1 := Scalar.cmpi .eq c4_i32_78 c0_i32_79
  let c1_i32_80 : BitVec 32 := 1#32
  let v149 : BitVec 32 := Scalar.select v148 c1_i32_80 c4_i32_78
  let v150 : BitVec 32 := Scalar.remsi v147 v149
  let c0_i32_82 : BitVec 32 := 0#32
  let v152 : BitVec 1 := Scalar.cmpi .slt v150 c0_i32_82
  let c0_i32_83 : BitVec 32 := 0#32
  let v153 : BitVec 1 := Scalar.cmpi .slt v149 c0_i32_83
  let v154 : BitVec 1 := Scalar.xori v152 v153
  let c0_i32_81 : BitVec 32 := 0#32
  let v151 : BitVec 1 := Scalar.cmpi .ne v150 c0_i32_81
  let v155 : BitVec 1 := Scalar.andi v154 v151
  let v156 : BitVec 32 := Scalar.addi v150 v149
  let v157 : BitVec 32 := Scalar.select v155 v156 v150
  let c1_i32_84 : BitVec 32 := 1#32
  let v158 : BitVec 32 := Scalar.muli v157 c1_i32_84
  let v159 : BitVec 32 := Scalar.addi c0_i32_85 v158
  v159.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_92 : BitVec 32 := 0#32
  let c0_i32_93 : BitVec 32 := 0#32
  ![v2.toNat, 0, 0]
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v147 : BitVec 32 := Scalar.addi v2 c1_i32_77
  let c4_i32_78 : BitVec 32 := 4#32
  let c0_i32_79 : BitVec 32 := 0#32
  let v148 : BitVec 1 := Scalar.cmpi .eq c4_i32_78 c0_i32_79
  let c1_i32_80 : BitVec 32 := 1#32
  let v149 : BitVec 32 := Scalar.select v148 c1_i32_80 c4_i32_78
  let v150 : BitVec 32 := Scalar.remsi v147 v149
  let c0_i32_82 : BitVec 32 := 0#32
  let v152 : BitVec 1 := Scalar.cmpi .slt v150 c0_i32_82
  let c0_i32_83 : BitVec 32 := 0#32
  let v153 : BitVec 1 := Scalar.cmpi .slt v149 c0_i32_83
  let v154 : BitVec 1 := Scalar.xori v152 v153
  let c0_i32_81 : BitVec 32 := 0#32
  let v151 : BitVec 1 := Scalar.cmpi .ne v150 c0_i32_81
  let v155 : BitVec 1 := Scalar.andi v154 v151
  let v156 : BitVec 32 := Scalar.addi v150 v149
  let v157 : BitVec 32 := Scalar.select v155 v156 v150
  let c1_i32_90 : BitVec 32 := 1#32
  let v168 : BitVec 32 := Scalar.muli v157 c1_i32_90
  let v169 : BitVec 32 := Scalar.addi c0_i32_91 v168
  v169.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_96 : BitVec 32 := 2#32
  let v178 : BitVec 32 := Scalar.addi v2 c2_i32_96
  let c4_i32_97 : BitVec 32 := 4#32
  let c0_i32_98 : BitVec 32 := 0#32
  let v179 : BitVec 1 := Scalar.cmpi .eq c4_i32_97 c0_i32_98
  let c1_i32_99 : BitVec 32 := 1#32
  let v180 : BitVec 32 := Scalar.select v179 c1_i32_99 c4_i32_97
  let v181 : BitVec 32 := Scalar.remsi v178 v180
  let c0_i32_101 : BitVec 32 := 0#32
  let v183 : BitVec 1 := Scalar.cmpi .slt v181 c0_i32_101
  let c0_i32_102 : BitVec 32 := 0#32
  let v184 : BitVec 1 := Scalar.cmpi .slt v180 c0_i32_102
  let v185 : BitVec 1 := Scalar.xori v183 v184
  let c0_i32_100 : BitVec 32 := 0#32
  let v182 : BitVec 1 := Scalar.cmpi .ne v181 c0_i32_100
  let v186 : BitVec 1 := Scalar.andi v185 v182
  let v187 : BitVec 32 := Scalar.addi v181 v180
  let v188 : BitVec 32 := Scalar.select v186 v187 v181
  let c1_i32_103 : BitVec 32 := 1#32
  let v189 : BitVec 32 := Scalar.muli v188 c1_i32_103
  let v190 : BitVec 32 := Scalar.addi c0_i32_104 v189
  v190.toNat
def k0_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_96 : BitVec 32 := 2#32
  let v178 : BitVec 32 := Scalar.addi v2 c2_i32_96
  let c4_i32_97 : BitVec 32 := 4#32
  let c0_i32_98 : BitVec 32 := 0#32
  let v179 : BitVec 1 := Scalar.cmpi .eq c4_i32_97 c0_i32_98
  let c1_i32_99 : BitVec 32 := 1#32
  let v180 : BitVec 32 := Scalar.select v179 c1_i32_99 c4_i32_97
  let v181 : BitVec 32 := Scalar.remsi v178 v180
  let c0_i32_101 : BitVec 32 := 0#32
  let v183 : BitVec 1 := Scalar.cmpi .slt v181 c0_i32_101
  let c0_i32_102 : BitVec 32 := 0#32
  let v184 : BitVec 1 := Scalar.cmpi .slt v180 c0_i32_102
  let v185 : BitVec 1 := Scalar.xori v183 v184
  let c0_i32_100 : BitVec 32 := 0#32
  let v182 : BitVec 1 := Scalar.cmpi .ne v181 c0_i32_100
  let v186 : BitVec 1 := Scalar.andi v185 v182
  let v187 : BitVec 32 := Scalar.addi v181 v180
  let v188 : BitVec 32 := Scalar.select v186 v187 v181
  let c1_i32_109 : BitVec 32 := 1#32
  let v199 : BitVec 32 := Scalar.muli v188 c1_i32_109
  let v200 : BitVec 32 := Scalar.addi c0_i32_110 v199
  v200.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_115 : BitVec 32 := 3#32
  let v209 : BitVec 32 := Scalar.addi v2 c3_i32_115
  let c4_i32_116 : BitVec 32 := 4#32
  let c0_i32_117 : BitVec 32 := 0#32
  let v210 : BitVec 1 := Scalar.cmpi .eq c4_i32_116 c0_i32_117
  let c1_i32_118 : BitVec 32 := 1#32
  let v211 : BitVec 32 := Scalar.select v210 c1_i32_118 c4_i32_116
  let v212 : BitVec 32 := Scalar.remsi v209 v211
  let c0_i32_120 : BitVec 32 := 0#32
  let v214 : BitVec 1 := Scalar.cmpi .slt v212 c0_i32_120
  let c0_i32_121 : BitVec 32 := 0#32
  let v215 : BitVec 1 := Scalar.cmpi .slt v211 c0_i32_121
  let v216 : BitVec 1 := Scalar.xori v214 v215
  let c0_i32_119 : BitVec 32 := 0#32
  let v213 : BitVec 1 := Scalar.cmpi .ne v212 c0_i32_119
  let v217 : BitVec 1 := Scalar.andi v216 v213
  let v218 : BitVec 32 := Scalar.addi v212 v211
  let v219 : BitVec 32 := Scalar.select v217 v218 v212
  let c1_i32_122 : BitVec 32 := 1#32
  let v220 : BitVec 32 := Scalar.muli v219 c1_i32_122
  let v221 : BitVec 32 := Scalar.addi c0_i32_123 v220
  v221.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_115 : BitVec 32 := 3#32
  let v209 : BitVec 32 := Scalar.addi v2 c3_i32_115
  let c4_i32_116 : BitVec 32 := 4#32
  let c0_i32_117 : BitVec 32 := 0#32
  let v210 : BitVec 1 := Scalar.cmpi .eq c4_i32_116 c0_i32_117
  let c1_i32_118 : BitVec 32 := 1#32
  let v211 : BitVec 32 := Scalar.select v210 c1_i32_118 c4_i32_116
  let v212 : BitVec 32 := Scalar.remsi v209 v211
  let c0_i32_120 : BitVec 32 := 0#32
  let v214 : BitVec 1 := Scalar.cmpi .slt v212 c0_i32_120
  let c0_i32_121 : BitVec 32 := 0#32
  let v215 : BitVec 1 := Scalar.cmpi .slt v211 c0_i32_121
  let v216 : BitVec 1 := Scalar.xori v214 v215
  let c0_i32_119 : BitVec 32 := 0#32
  let v213 : BitVec 1 := Scalar.cmpi .ne v212 c0_i32_119
  let v217 : BitVec 1 := Scalar.andi v216 v213
  let v218 : BitVec 32 := Scalar.addi v212 v211
  let v219 : BitVec 32 := Scalar.select v217 v218 v212
  let c1_i32_128 : BitVec 32 := 1#32
  let v230 : BitVec 32 := Scalar.muli v219 c1_i32_128
  let v231 : BitVec 32 := Scalar.addi c0_i32_129 v230
  v231.toNat
def k0_off7 (d0 : Dev nD) (c1_i32_134 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v240 : BitVec 32 := Scalar.addi v2 c1_i32_134
  let c4_i32_135 : BitVec 32 := 4#32
  let c0_i32_136 : BitVec 32 := 0#32
  let v241 : BitVec 1 := Scalar.cmpi .eq c4_i32_135 c0_i32_136
  let c1_i32_137 : BitVec 32 := 1#32
  let v242 : BitVec 32 := Scalar.select v241 c1_i32_137 c4_i32_135
  let v243 : BitVec 32 := Scalar.remsi v240 v242
  let c0_i32_139 : BitVec 32 := 0#32
  let v245 : BitVec 1 := Scalar.cmpi .slt v243 c0_i32_139
  let c0_i32_140 : BitVec 32 := 0#32
  let v246 : BitVec 1 := Scalar.cmpi .slt v242 c0_i32_140
  let v247 : BitVec 1 := Scalar.xori v245 v246
  let c0_i32_138 : BitVec 32 := 0#32
  let v244 : BitVec 1 := Scalar.cmpi .ne v243 c0_i32_138
  let v248 : BitVec 1 := Scalar.andi v247 v244
  let v249 : BitVec 32 := Scalar.addi v243 v242
  let v250 : BitVec 32 := Scalar.select v248 v249 v243
  let c0_i32_143 : BitVec 32 := 0#32
  let c0_i32_144 : BitVec 32 := 0#32
  ![v250.toNat, 0, 0]
def k0_off8 (d0 : Dev nD) (c1_i32_134 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v240 : BitVec 32 := Scalar.addi v2 c1_i32_134
  let c4_i32_135 : BitVec 32 := 4#32
  let c0_i32_136 : BitVec 32 := 0#32
  let v241 : BitVec 1 := Scalar.cmpi .eq c4_i32_135 c0_i32_136
  let c1_i32_137 : BitVec 32 := 1#32
  let v242 : BitVec 32 := Scalar.select v241 c1_i32_137 c4_i32_135
  let v243 : BitVec 32 := Scalar.remsi v240 v242
  let c0_i32_139 : BitVec 32 := 0#32
  let v245 : BitVec 1 := Scalar.cmpi .slt v243 c0_i32_139
  let c0_i32_140 : BitVec 32 := 0#32
  let v246 : BitVec 1 := Scalar.cmpi .slt v242 c0_i32_140
  let v247 : BitVec 1 := Scalar.xori v245 v246
  let c0_i32_138 : BitVec 32 := 0#32
  let v244 : BitVec 1 := Scalar.cmpi .ne v243 c0_i32_138
  let v248 : BitVec 1 := Scalar.andi v247 v244
  let v249 : BitVec 32 := Scalar.addi v243 v242
  let v250 : BitVec 32 := Scalar.select v248 v249 v243
  let c0_i32_149 : BitVec 32 := 0#32
  let c0_i32_150 : BitVec 32 := 0#32
  ![v250.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S8x1x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x16x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S8x1x8x128 : Shape := ⟨4, ![8, 1, 8, 128]⟩
abbrev S2048x16x8x128 : Shape := ⟨4, ![2048, 16, 8, 128]⟩
abbrev S8x512 : Shape := ⟨2, ![8, 512]⟩
abbrev S8 : Shape := ⟨1, ![8]⟩
abbrev S8x512x1 : Shape := ⟨3, ![8, 512, 1]⟩
abbrev S8x512x16x8x128 : Shape := ⟨5, ![8, 512, 16, 8, 128]⟩
abbrev S8x8192x8x128 : Shape := ⟨4, ![8, 8192, 8, 128]⟩
abbrev S8x8x1x8192 : Shape := ⟨4, ![8, 8, 1, 8192]⟩
abbrev S_ : Shape := ⟨0, ![]⟩
abbrev S8x512x16 : Shape := ⟨3, ![8, 512, 16]⟩
abbrev S8x1x1 : Shape := ⟨3, ![8, 1, 1]⟩
abbrev S8x1x1x8192 : Shape := ⟨4, ![8, 1, 1, 8192]⟩
abbrev S8x8x1 : Shape := ⟨3, ![8, 8, 1]⟩
abbrev S8x8x1x1 : Shape := ⟨4, ![8, 8, 1, 1]⟩
abbrev S8x8x128x1 : Shape := ⟨4, ![8, 8, 128, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x1x8x128, .bf16⟩
  | .hbm, ⟨1, _⟩ => ⟨S2048x16x8x128, .bf16⟩
  | .hbm, ⟨2, _⟩ => ⟨S2048x16x8x128, .bf16⟩
  | .hbm, ⟨3, _⟩ => ⟨S8x512, .i32⟩
  | .hbm, ⟨4, _⟩ => ⟨S8, .i32⟩
  | .hbm, ⟨5, _⟩ => ⟨S2048x16x8x128, .f32⟩
  | .hbm, ⟨6, _⟩ => ⟨S8x512x1, .i32⟩
  | .hbm, ⟨7, _⟩ => ⟨S8x512x16x8x128, .f32⟩
  | .hbm, ⟨8, _⟩ => ⟨S8x8192x8x128, .f32⟩
  | .hbm, ⟨9, _⟩ => ⟨S2048x16x8x128, .f32⟩
  | .hbm, ⟨10, _⟩ => ⟨S8x512x1, .i32⟩
  | .hbm, ⟨11, _⟩ => ⟨S8x512x16x8x128, .f32⟩
  | .hbm, ⟨12, _⟩ => ⟨S8x8192x8x128, .f32⟩
  | .hbm, ⟨13, _⟩ => ⟨S8x1x8x128, .f32⟩
  | .hbm, ⟨14, _⟩ => ⟨S8x8x1x8192, .f32⟩
  | .hbm, ⟨15, _⟩ => ⟨S_, .f32⟩
  | .hbm, ⟨16, _⟩ => ⟨S_, .f32⟩
  | .hbm, ⟨17, _⟩ => ⟨S8x8x1x8192, .f32⟩
  | .hbm, ⟨18, _⟩ => ⟨S8x8x1x8192, .f32⟩
  | .hbm, ⟨19, _⟩ => ⟨S8x512x16, .i32⟩
  | .hbm, ⟨20, _⟩ => ⟨S8x1x1, .i32⟩
  | .hbm, ⟨21, _⟩ => ⟨S8x512x16, .i32⟩
  | .hbm, ⟨22, _⟩ => ⟨S8x512x16, .i1⟩
  | .hbm, ⟨23, _⟩ => ⟨S8x1x1x8192, .i1⟩
  | .hbm, ⟨24, _⟩ => ⟨S_, .f32⟩
  | .hbm, ⟨25, _⟩ => ⟨S_, .f32⟩
  | .hbm, ⟨26, _⟩ => ⟨S8x8x1x8192, .i1⟩
  | .hbm, ⟨27, _⟩ => ⟨S8x8x1x8192, .f32⟩
  | .hbm, ⟨28, _⟩ => ⟨S8x8x1x8192, .f32⟩
  | .hbm, ⟨29, _⟩ => ⟨S_, .f32⟩
  | .hbm, ⟨30, _⟩ => ⟨S8x8x1, .f32⟩
  | .hbm, ⟨31, _⟩ => ⟨S8x8x1x1, .f32⟩
  | .hbm, ⟨32, _⟩ => ⟨S8x8x1x8192, .f32⟩
  | .hbm, ⟨33, _⟩ => ⟨S8x8x1x8192, .f32⟩
  | .hbm, ⟨34, _⟩ => ⟨S8x8x1x8192, .f32⟩
  | .hbm, ⟨35, _⟩ => ⟨S_, .f32⟩
  | .hbm, ⟨36, _⟩ => ⟨S8x8x1, .f32⟩
  | .hbm, ⟨37, _⟩ => ⟨S8x8x1x1, .f32⟩
  | .hbm, ⟨38, _⟩ => ⟨S8x8x1x8192, .f32⟩
  | .hbm, ⟨39, _⟩ => ⟨S8x8x1x8192, .f32⟩
  | .hbm, ⟨40, _⟩ => ⟨S8x8x128x1, .f32⟩
  | .hbm, ⟨41, _⟩ => ⟨S8x1x8x128, .f32⟩
  | _, _ => ⟨S8x1x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Protocol.lean ====
/-
# The exchange's protocol

Four devices each hold a partial softmax: a running maximum, a running sum and a weighted sum of values. At the
last grid point every device sends its two tables to the three others and merges what it received with its own.

Before it sends, a device waits until every peer has entered the kernel: each device signals the barrier
semaphore of its three peers and waits for three units on its own. With its signal device `p` hands its peer `c`
the landing slots number `c` of `p`'s two tables; `c`'s copies fill exactly those.

Cells and duties, one round each:

* barrier cell of `c`: three duties of one unit, duty `k` paid by the device whose `k`-th peer is `c`; its payload
  is that device's two landing slots number `c`, at any contents;
* send cell `(table, z)` of `c`, for a peer `z`: one duty, paid by the landing of `c`'s copy in `z`; its payload is
  the share of `c`'s own slot that the copy read;
* receive cell `(table, z)` of `c`: one duty, paid by `z`; its payload is `c`'s slot `z`, holding `z`'s table.

Levels: a barrier wait lies below the receive waits; everything else lies at zero.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the exchange's, duties numbered by `Fin 3` -/

/-- The ghost state of the rounds, with three duties to a cell. -/
abbrev UX : Type := URounds (GSem nD τ sig) (Fin 3)
/-- The ghost state of the pipeline and that of the rounds. -/
abbrev UU : Type := UR sig nD τ × UX

local notation "𝕄" => MT nD τ sig Unit (Elt F) ℕ UU ℕ

/-- Where the pipeline's ghost state lies. -/
abbrev EP : Emb (UR sig nD τ) (MT nD τ sig Unit (Elt F) ℕ UU ℕ) := embL
/-- Where the rounds' ghost state lies. -/
abbrev ER : Emb UX (MT nD τ sig Unit (Elt F) ℕ UU ℕ) := embR

/-! ## Peers -/

set_option backward.proofsInPublic true in
/-- The `k`-th peer of a device: `k + 1` places on, around the ring of four. -/
def pe (k : Fin 3) (c : Dev nD) : Dev nD := ⟨(c.val + k.val + 1) % 4, Nat.mod_lt _ (by decide)⟩

/-- The way back from a peer. -/
theorem pe_rev (k : Fin 3) (c : Dev nD) : pe k.rev (pe k c) = c := by revert k c; decide
/-- No device is its own peer. -/
theorem pe_ne (k : Fin 3) (c : Dev nD) : pe k c ≠ c := by revert k c; decide

/-- A conjunction over the devices, read from one of them: itself and its three peers. -/
theorem bigSep_peers {M : Type} [URA M] (c : Dev nD) (Φ : Dev nD → sProp M) :
    bigSep Finset.univ Φ = iprop(Φ c ∗ Φ (pe 0 c) ∗ Φ (pe 1 c) ∗ Φ (pe 2 c)) :=
  bigSep_univ_eq_bigSepL [c, pe 0 c, pe 1 c, pe 2 c] (by revert c; decide) (by revert c; decide) Φ

/-- A separating product over three is a product of three. -/
theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

/-- A separating product over four is a product of four. -/
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-! ## Memrefs and cells -/

/-- The two tables: per device a slot of value sums, and a slot of maxima and sums. -/
abbrev accM : Memref sig .tc .vmem S4x64x128 .f32 := Memref.whole cc0_scratch4
/-- The array of maxima and sums that is exchanged. -/
abbrev mlM : Memref sig .tc .vmem S4x64x2 .f32 := Memref.whole cc0_scratch5

/-- A slot of the weighted sums lies inside the array. -/
theorem inbA (z : Dev nD) : ∀ a, (![z.val, 0, 0] : Fin 3 → Nat) a + S1x64x128.size a ≤ S4x64x128.size a := by revert z; decide
/-- A slot of the maxima and sums lies inside the array. -/
theorem inbM (z : Dev nD) : ∀ a, (![z.val, 0, 0] : Fin 3 → Nat) a + S1x64x2.size a ≤ S4x64x2.size a := by revert z; decide

/-- The region of slot `z` of the weighted sums. -/
abbrev rectA (z : Dev nD) : Rect S4x64x128 := Rect.unit (s := S4x64x128) ![z.val, 0, 0] S1x64x128.size (inbA z)
/-- The region of slot `z` of the maxima and sums. -/
abbrev rectM (z : Dev nD) : Rect S4x64x2 := Rect.unit (s := S4x64x2) ![z.val, 0, 0] S1x64x2.size (inbM z)

/-- Slot `z` of each table, and the same with its axis of size one dropped, as the copies name it. -/
abbrev slA (z : Dev nD) : Memref sig .tc .vmem S1x64x128 .f32 := accM.slice (rectA z) (fun _ => rfl)
/-- Slot `z` of the maxima and sums. -/
abbrev slM (z : Dev nD) : Memref sig .tc .vmem S1x64x2 .f32 := mlM.slice (rectM z) (fun _ => rfl)
/-- Slot `z` of the weighted sums, as a matrix. -/
abbrev sqA (z : Dev nD) : Memref sig .tc .vmem S64x128 .f32 := (slA z).squeeze S64x128 squeezes_S1x64x128_S64x128
/-- Slot `z` of the maxima and sums, as a matrix. -/
abbrev sqM (z : Dev nD) : Memref sig .tc .vmem S64x2 .f32 := (slM z).squeeze S64x2 squeezes_S1x64x2_S64x2

/-- The barrier semaphore; -/
abbrev barS : Sem sig := (SemArray.scalar (sig.barrier 0 rfl) : Sems sig S_).sem
set_option backward.proofsInPublic true in
/-- the DMA semaphores: value sums sent (0) and received (1), maxima and sums sent (2) and received (3). -/
def dsem (κ : Fin 4) (z : Dev nD) : DmaSem sig := ⟨8 + 4 * κ.val + z.val, by revert κ z; decide⟩

set_option backward.proofsInPublic true in
/-- Which of them a DMA semaphore is. -/
def dec (q : DmaSem sig) : Option (Fin 4 × Dev nD) :=
  if 8 ≤ q.val then some (⟨(q.val - 8) / 4, by revert q; decide⟩, ⟨(q.val - 8) % 4, Nat.mod_lt _ (by decide)⟩) else none

/-- A copy's semaphore is decoded to its kind and its device. -/
theorem dec_dsem (κ : Fin 4) (z : Dev nD) : dec (dsem κ z) = some (κ, z) := by revert κ z; decide

/-- A device's cells: the barrier, and the sixteen DMA cells. -/
abbrev Ck : Type := Unit ⊕ (Fin 4 × Dev nD)
/-- The copies' semaphores, by kind and device. -/
abbrev osem : Fin 4 × Dev nD → SemLoc sig := fun kz => .dma (dsem kz.1 kz.2)
/-- Every semaphore of the exchange. -/
abbrev csem : Ck → SemLoc sig := Sum.elim (fun _ => .reg barS) osem
/-- A device's semaphore of the exchange. -/
abbrev kcell (ck : Dev nD × Ck) : GSem nD τ sig := ((ck.1 : Thread nD τ), csem ck.2)
/-- A device's barrier semaphore. -/
abbrev barCell (c : Dev nD) : GSem nD τ sig := ((c : Thread nD τ), .reg barS)
/-- A device's semaphore of kind `κ` for device `z`. -/
abbrev dcell (c : Dev nD) (κ : Fin 4) (z : Dev nD) : GSem nD τ sig := ((c : Thread nD τ), .dma (dsem κ z))

/-- A slot's transfer credit. -/
abbrev NA : ℕ := (sqA 0).view.dmaCredit
/-- The units that a copy of maxima and sums brings. -/
abbrev NM : ℕ := (sqM 0).view.dmaCredit
/-- A copy of weighted sums brings units. -/
theorem NA_pos : 0 < NA := View.dmaCredit_pos _ (by decide)
/-- A copy of maxima and sums brings units. -/
theorem NM_pos : 0 < NM := View.dmaCredit_pos _ (by decide)
/-- The credit of a DMA cell. -/
def NN (κ : Fin 4) : ℕ := if κ.val < 2 then NA else NM
/-- Every copy brings units. -/
theorem NN_pos (κ : Fin 4) : 0 < NN κ := by
  unfold NN; split
  · exact NA_pos
  · exact NM_pos

/-- The four quarters of a full share, one per peer and one kept. -/
def qs (z : Dev nD) : PosShare TreeShare := match z with
  | ⟨0, _⟩ => fullShare.left.left
  | ⟨1, _⟩ => fullShare.left.right
  | ⟨2, _⟩ => fullShare.right.left
  | ⟨_ + 3, _⟩ => fullShare.right.right

/-! ## Ownership of a slot -/

/-- A memref with an axis of size one dropped is owned as the memref is. -/
theorem owns_squeeze (c : Dev nD) {s s' : Shape} {e : EltTy} (m : Memref sig .tc .vmem s e) (h : s.Squeezes s')
    (q : PosShare TreeShare) (W : s.Idx → Elt F e) :
    (owns (c : Thread nD τ) (m.squeeze s' h) q (fun x => W (Shape.reshapeEquiv h.numel_eq x)) : sProp 𝕄)
      = owns (c : Thread nD τ) m q W := by
  have hset : (m.squeeze s' h).view.set = m.view.set := View.set_reshape (v := m.view) h.numel_eq
  unfold owns
  rw [hset]
  have hread (f : m.view.ty.Contents (Elt F)) :
      ((m.squeeze s' h).view.read (Elt F) f = fun x => W (Shape.reshapeEquiv h.numel_eq x)) ↔ m.view.read (Elt F) f = W := by
    constructor
    · intro hf; funext y
      have := congrFun hf ((Shape.reshapeEquiv h.numel_eq).symm y)
      simp only [Equiv.apply_symm_apply] at this
      rw [← this]
      show _ = m.view.read (Elt F) f (Shape.reshapeEquiv h.numel_eq ((Shape.reshapeEquiv h.numel_eq).symm y))
      rw [Equiv.apply_symm_apply]
    · intro hf; funext x; exact congrFun hf _
  congr 1; funext f
  rw [hread f]

/-- A memref owned whole is its four quarters. -/
theorem owns_quarters (c : Dev nD) {s : Shape} {e : EltTy} (m : Memref sig .tc .vmem s e) (W : s.Idx → Elt F e) :
    (owns (c : Thread nD τ) m fullShare W : sProp 𝕄) ⊣⊢ bigSep Finset.univ fun z => owns (c : Thread nD τ) m (qs z) W := by
  rw [show (bigSep Finset.univ fun z : Dev nD => (owns (c : Thread nD τ) m (qs z) W : sProp 𝕄))
      = iprop(owns (c : Thread nD τ) m fullShare.left.left W ∗ owns (c : Thread nD τ) m fullShare.left.right W
        ∗ owns (c : Thread nD τ) m fullShare.right.left W ∗ owns (c : Thread nD τ) m fullShare.right.right W) from bigSep_four _]
  constructor
  · iintro H
    ihave H := (owns_halves (c : Thread nD τ) m fullShare W).1 $$ H
    icases H with ⟨Hl, Hr⟩
    ihave Hl := (owns_halves (c : Thread nD τ) m fullShare.left W).1 $$ Hl
    ihave Hr := (owns_halves (c : Thread nD τ) m fullShare.right W).1 $$ Hr
    icases Hl with ⟨H1, H2⟩
    icases Hr with ⟨H3, H4⟩
    isplitl [H1]; · iexact H1
    isplitl [H2]; · iexact H2
    isplitl [H3] <;> iassumption
  · iintro ⟨H1, H2, H3, H4⟩
    iapply (owns_halves (c : Thread nD τ) m fullShare W).2
    isplitl [H1 H2]
    · iapply (owns_halves (c : Thread nD τ) m fullShare.left W).2
      isplitl [H1] <;> iassumption
    · iapply (owns_halves (c : Thread nD τ) m fullShare.right W).2
      isplitl [H3] <;> iassumption

/-! ## The schedule -/

variable (WA : Dev nD → Vec F S1x64x128 .f32) (WM : Dev nD → Vec F S1x64x2 .f32)

/-- What the payer of duty `k` of `c`'s barrier cell hands `c`: its own landing slots number `c`. -/
def barPay (c : Dev nD) (k : Fin 3) : sProp 𝕄 :=
  iprop((∃ X, owns (pe k.rev c : Thread nD τ) (slA c) fullShare X) ∗ ∃ Y, owns (pe k.rev c : Thread nD τ) (slM c) fullShare Y)

/-- What the DMA cell `(κ, z)` of `c` is paid with. -/
def dmaPay (c : Dev nD) (κ : Fin 4) (z : Dev nD) : sProp 𝕄 := match κ with
  | ⟨0, _⟩ => owns (c : Thread nD τ) (slA c) (qs z) (WA c)
  | ⟨1, _⟩ => owns (c : Thread nD τ) (slA z) fullShare (WA z)
  | ⟨2, _⟩ => owns (c : Thread nD τ) (slM c) (qs z) (WM c)
  | ⟨_ + 3, _⟩ => owns (c : Thread nD τ) (slM z) fullShare (WM z)

omit [FloatOps F] [Named F] in
instance barPay_storable (c : Dev nD) (k : Fin 3) : BI.Storable (upEmb : UEmb _ 𝕄) (barPay (F := F) c k) := by
  unfold barPay; infer_instance
instance dmaPay_storable (c : Dev nD) (κ : Fin 4) (z : Dev nD) : BI.Storable (upEmb : UEmb _ 𝕄) (dmaPay (F := F) WA WM c κ z) := by
  unfold dmaPay; split <;> infer_instance

/-- The duties on a semaphore of device `c`. -/
def dutiesAt (c : Dev nD) : SemLoc sig → Finset (Fin 3)
  | .reg _ => Finset.univ
  | .dma q => match dec q with
    | none => ∅
    | some kz => if kz.2 = c then ∅ else {0}

/-- The units that one duty brings. -/
def amountAt : SemLoc sig → ℕ
  | .reg _ => 1
  | .dma q => match dec q with
    | none => 1
    | some kz => NN kz.1

/-- What duty `k` on a semaphore of device `c` hands over. -/
def payAt (c : Dev nD) (k : Fin 3) : SemLoc sig → sProp 𝕄
  | .reg _ => barPay c k
  | .dma q => match dec q with
    | none => iprop(emp)
    | some kz => dmaPay WA WM c kz.1 kz.2

/-- One round, round 0. -/
def Rd : Rounds.Schedule (GSem nD τ sig) (Fin 3) 𝕄 where
  duties g r := if r = 0 ∧ g.1.2 = .tc then dutiesAt g.1.1 g.2 else ∅
  unitless _ := False
  amount g _ _ := amountAt g.2
  payload g _ d := payAt WA WM g.1.1 d g.2
  amount_pos g _ _ _ := by
    unfold amountAt; split
    · exact Nat.one_pos
    · split
      · exact Nat.one_pos
      · exact NN_pos _

instance Rd_payload_storable (g : GSem nD τ sig) (r : ℕ) (d : Fin 3) :
    BI.Storable (upEmb : UEmb _ 𝕄) ((Rd (F := F) WA WM).payload g r d) := by
  show BI.Storable upEmb (payAt WA WM g.1.1 d g.2)
  unfold payAt; split
  · infer_instance
  · split <;> infer_instance

section Sched
variable (c : Dev nD)

/-- All three peers have a duty on the barrier. -/
theorem duties_bar : (Rd (F := F) WA WM).duties (barCell c) 0 = Finset.univ := by
  dsimp only [Rd]; rw [if_pos ⟨rfl, rfl⟩]; rfl
/-- A copy's semaphore has one duty, unless it is the device's own. -/
theorem duties_dma (κ : Fin 4) (z : Dev nD) : (Rd (F := F) WA WM).duties (dcell c κ z) 0 = if z = c then ∅ else {0} := by
  dsimp only [Rd]; rw [if_pos ⟨rfl, rfl⟩]; dsimp only [dutiesAt]; rw [dec_dsem]
/-- The semaphore of a peer's copy has one duty. -/
theorem duties_peer (κ : Fin 4) {z : Dev nD} (h : z ≠ c) : (Rd (F := F) WA WM).duties (dcell c κ z) 0 = {0} := by
  rw [duties_dma, if_neg h]
/-- There is one round and no more. -/
theorem duties_later (g : GSem nD τ sig) : ∀ r, 1 ≤ r → (Rd (F := F) WA WM).duties g r = ∅ :=
  fun r hr => by dsimp only [Rd]; rw [if_neg fun h => by omega]
/-- A device has no duty on the semaphores of its own slot. -/
theorem duties_self (κ : Fin 4) : ∀ r, 0 ≤ r → (Rd (F := F) WA WM).duties (dcell c κ c) r = ∅ := fun r _ => by
  by_cases hr : r = 0
  · subst hr; rw [duties_dma, if_pos rfl]
  · exact duties_later WA WM _ r (by omega)

/-- A duty on the barrier brings one unit. -/
theorem amount_bar (d : Fin 3) : (Rd (F := F) WA WM).amount (barCell c) 0 d = 1 := rfl
/-- The duty on a copy's semaphore brings that copy's units. -/
theorem amount_dma (κ : Fin 4) (z : Dev nD) (d : Fin 3) : (Rd (F := F) WA WM).amount (dcell c κ z) 0 d = NN κ := by
  dsimp only [Rd, amountAt]; rw [dec_dsem]
/-- A signal hands over the signaller's slots for the device that it goes to. -/
theorem payload_bar (d : Fin 3) : (Rd (F := F) WA WM).payload (barCell c) 0 d = barPay c d := rfl
/-- The duty on a copy's semaphore hands over that copy's slot. -/
theorem payload_dma (κ : Fin 4) (z : Dev nD) (d : Fin 3) : (Rd (F := F) WA WM).payload (dcell c κ z) 0 d = dmaPay WA WM c κ z := by
  dsimp only [Rd, payAt]; rw [dec_dsem]

/-- The barrier expects three units. -/
theorem expect_bar : (Rd (F := F) WA WM).expect (barCell c) 0 = 3 := by
  unfold Schedule.expect Schedule.amountOf
  rw [duties_bar, Finset.sum_congr rfl fun d _ => amount_bar WA WM c d, Finset.sum_const, Finset.card_univ, Fintype.card_fin, smul_eq_mul]
/-- A copy's semaphore expects that copy's units. -/
theorem expect_dma (κ : Fin 4) {z : Dev nD} (h : z ≠ c) : (Rd (F := F) WA WM).expect (dcell c κ z) 0 = NN κ := by
  unfold Schedule.expect Schedule.amountOf; rw [duties_peer WA WM c κ h, Finset.sum_singleton, amount_dma]

/-- The whole round of a barrier cell: the three peers' landing slots. -/
theorem rest_bar : bigSep ((Rd (F := F) WA WM).duties (barCell c) 0 \ ∅) (fun d => (Rd (F := F) WA WM).payload (barCell c) 0 d)
    = iprop(barPay c 0 ∗ barPay c 1 ∗ barPay c 2) := by
  rw [Finset.sdiff_empty, duties_bar, bigSep_three]; rfl
/-- What is still to come on a copy's semaphore is its one payload. -/
theorem rest_dma (κ : Fin 4) {z : Dev nD} (h : z ≠ c) :
    bigSep ((Rd (F := F) WA WM).duties (dcell c κ z) 0 \ ∅) (fun d => (Rd (F := F) WA WM).payload (dcell c κ z) 0 d) = dmaPay WA WM c κ z := by
  rw [Finset.sdiff_empty, duties_peer WA WM c κ h, bigSep_singleton, payload_dma]

end Sched

/-! ## What a device owes, and the levels -/

/-- What a device's six copies owe its peers, in the order sent. -/
def Os (c : Dev nD) : CellTallies nD τ sig Unit :=
  ((((0 + tallyAt (dcell (pe 2 c) 3 c) () NM) + tallyAt (dcell (pe 2 c) 1 c) () NA) + tallyAt (dcell (pe 1 c) 3 c) () NM
    + tallyAt (dcell (pe 1 c) 1 c) () NA) + tallyAt (dcell (pe 0 c) 3 c) () NM) + tallyAt (dcell (pe 0 c) 1 c) () NA
/-- What a device owes at launch: that and its three signals. -/
def O₀ (c : Dev nD) : CellTallies nD τ sig Unit :=
  ((Os c + tallyAt (barCell (pe 2 c)) () 1) + tallyAt (barCell (pe 1 c)) () 1) + tallyAt (barCell (pe 0 c)) () 1

/-- The levels of a semaphore: one, on the core that runs the kernel. -/
def L (g : GSem nD τ sig) : Finset Unit := if g.1.2 = .tc then {()} else ∅
/-- Barrier cells at 1, receive cells at 2, everything else at 0. -/
def lvS : SemLoc sig → ℕ
  | .reg _ => 1
  | .dma q => match dec q with
    | none => 0
    | some kz => if kz.1 = 1 ∨ kz.1 = 3 then 2 else 0
/-- The level of a semaphore. -/
def lv (g : GSem nD τ sig) (_ : Unit) : ℕ := lvS g.2

/-- Other cores' semaphores have no level. -/
theorem L_of_ne (g : GSem nD τ sig) (h : g.1.2 ≠ .tc) : L g = ∅ := if_neg h
/-- The kernel's core has one level for each semaphore. -/
theorem L_tc (c : Dev nD) (sm : SemLoc sig) : L ((c : Thread nD τ), sm) = {()} := if_pos rfl
/-- The semaphores of arriving copies have level two. -/
theorem lv_recv (c : Dev nD) (κ : Fin 4) (z : Dev nD) (h : κ = 1 ∨ κ = 3) : lv (dcell c κ z) () = 2 := by
  unfold lv; dsimp only [lvS]; rw [dec_dsem]; exact if_pos h

/-- A sum of tallies is positive only where one of them is. -/
theorem tally_pos {A : CellTallies nD τ sig Unit} {g g' : GSem nD τ sig} {n : ℕ} {u : Unit} (h : 0 < (A + tallyAt g' () n) g u) :
    0 < A g u ∨ g = g' := by
  rw [Pi.add_apply, Finsupp.add_apply, tallyAt_apply] at h
  by_cases hg : g = g'
  · exact Or.inr hg
  · rw [if_neg (fun h' => hg h'.1)] at h; exact Or.inl h

/-- What is owed while copying is owed on peers' semaphores of arriving copies. -/
theorem Os_pos {c : Dev nD} {g : GSem nD τ sig} {u : Unit} (h : 0 < Os c g u) :
    ∃ d κ, (κ = 1 ∨ κ = 3) ∧ g = dcell d κ c := by
  unfold Os at h
  rcases tally_pos h with h | h
  · rcases tally_pos h with h | h
    · rcases tally_pos h with h | h
      · rcases tally_pos h with h | h
        · rcases tally_pos h with h | h
          · rcases tally_pos h with h | h
            · exact absurd h (Nat.lt_irrefl 0)
            · exact ⟨_, 3, .inr rfl, h⟩
          · exact ⟨_, 1, .inl rfl, h⟩
        · exact ⟨_, 3, .inr rfl, h⟩
      · exact ⟨_, 1, .inl rfl, h⟩
    · exact ⟨_, 3, .inr rfl, h⟩
  · exact ⟨_, 1, .inl rfl, h⟩

/-- What is owed at the start is owed on a barrier or on peers' semaphores of arriving copies. -/
theorem O₀_pos {c : Dev nD} {g : GSem nD τ sig} {u : Unit} (h : 0 < O₀ c g u) :
    (∃ d κ, (κ = 1 ∨ κ = 3) ∧ g = dcell d κ c) ∨ ∃ d, g = barCell d := by
  unfold O₀ at h
  rcases tally_pos h with h | h
  · rcases tally_pos h with h | h
    · rcases tally_pos h with h | h
      · exact Or.inl (Os_pos h)
      · exact Or.inr ⟨_, h⟩
    · exact Or.inr ⟨_, h⟩
  · exact Or.inr ⟨_, h⟩

omit [FloatOps F] [Named F] in
/-- A staging wait lies below everything a device owes. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, κ, -, rfl⟩ | ⟨d, rfl⟩ <;> exact Finset.mem_singleton_self _)
      (fun p hp => by rw [Finset.mem_singleton.mp hp]; exact hq.le)
      (fun g u hg => by
        rcases O₀_pos hg with ⟨d, κ, hκ, rfl⟩ | ⟨d, rfl⟩
        · rw [lv_recv _ _ _ hκ]; decide
        · exact Nat.one_pos)
  · rw [MayWait_zero]; iintro -; iempintro

omit [FloatOps F] [Named F] in
/-- At its barrier wait a device owes receive credit only. -/
theorem mayWait_bar (c : Dev nD) : (levAts L lv : sProp 𝕄) ⊢ MayWait (c : Thread nD τ) (.reg barS) () (Os c) :=
  MayOwe.of_cut (L := L) (lev := lv) 1 (fun p hp => by rw [Finset.mem_singleton.mp hp, L_tc]; exact Finset.mem_singleton_self _)
    (fun g u hg => by obtain ⟨d, κ, -, rfl⟩ := Os_pos hg; exact Finset.mem_singleton_self _)
    (fun p hp => by rw [Finset.mem_singleton.mp hp]; exact le_rfl)
    (fun g u hg => by obtain ⟨d, κ, hκ, rfl⟩ := Os_pos hg; rw [lv_recv _ _ _ hκ]; decide)

/-! ## Ghost state -/

/-- Every device's cells' invariants, under the names `K`, and that each has reached round 0. -/
def records (K : Dev nD × Ck → ℕ) : sProp 𝕄 :=
  iprop((bigSep Finset.univ fun ck : Dev nD × Ck => cellInv ER (Rd WA WM) (K ck) (kcell ck))
    ∗ bigSep Finset.univ fun ck : Dev nD × Ck => reached ER (kcell ck) 0)

instance records_persistent (K : Dev nD × Ck → ℕ) : BI.Persistent (records WA WM K) := by unfold records; infer_instance

/-- The records hold each cell's invariant. -/
theorem records_inv (K : Dev nD × Ck → ℕ) (ck : Dev nD × Ck) :
    (records WA WM K : sProp 𝕄) ⊢ cellInv ER (Rd WA WM) (K ck) (kcell ck) := by
  unfold records; exact sep_elim_left.trans (bigSep_elim (Finset.mem_univ ck))
/-- The records hold that each cell's first round is reached. -/
theorem records_reached (K : Dev nD × Ck → ℕ) (ck : Dev nD × Ck) :
    (records WA WM K : sProp 𝕄) ⊢ reached ER (kcell ck) 0 := by
  unfold records; exact sep_elim_right.trans (bigSep_elim (Finset.mem_univ ck))

/-- The duties a device pays: per peer its signal, its two sends and their landings. -/
def payToks (c : Dev nD) : sProp 𝕄 :=
  bigSep Finset.univ fun k : Fin 3 => iprop(dutyTok ER (barCell (pe k c)) 0 k
    ∗ dutyTok ER (dcell c 0 (pe k c)) 0 0 ∗ dutyTok ER (dcell (pe k c) 1 c) 0 0
    ∗ dutyTok ER (dcell c 2 (pe k c)) 0 0 ∗ dutyTok ER (dcell (pe k c) 3 c) 0 0)

/-- A device's positions at round 0 of its own cells. -/
def positions (c : Dev nD) : sProp 𝕄 := bigSep Finset.univ fun k : Ck => atPos ER (kcell (c, k)) 0 ∅ 0

/-- The credits a device waits on: three barrier units, and per peer the two landings. -/
def credits (c : Dev nD) : sProp 𝕄 :=
  iprop(cred (tallyAt (barCell c) () 3) ∗ bigSep Finset.univ fun k : Fin 3 =>
    iprop(cred (tallyAt (dcell c 1 (pe k c)) () NA) ∗ cred (tallyAt (dcell c 3 (pe k c)) () NM)))

/-- What a device holds of the protocol until its last grid point. -/
def start (c : Dev nD) : sProp 𝕄 :=
  iprop((∃ K, records WA WM K ∗ positions c ∗ payToks c) ∗ credits c ∗ levAts L lv)

end Cert.KernelIdeal.Exchange

end
-- ==== Proof.Steps.lean ====
/-
# The exchange's steps, one rule each

Loads and stores of a memref held by what it reads, and the protocol's steps: a signal to a peer's barrier, the
barrier wait, a copy of the device's own slot to a peer, and a wait on one of the device's DMA cells.
-/
module

public import proofs.«01_k».proof.Proof.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The kernel has no loops of its own that need a variant. -/
def 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of what is owned -/

/-- Storing through a rectangle what is owned as the slice there. -/
theorem wp_store_slot (c : Dev nD) {s : Shape} {e : EltTy} {m : Memref sig .tc .vmem s e} {r : Rect s} {hr : ∀ a, r.stride a = 1} {w : r.shape.Idx → Elt F e}
    {hx : (m.access r).Stores Finset.univ} {hm : Finset.univ = Finset.univ ∨ ∀ a, r.stride a = 1}
    {α : Type} {Q : α → sProp 𝕄} {k : PUnit → Prog (TpuEff nD τ sig (Elt F) Λ₀ .tc) α} (X : r.shape.Idx → Elt F e) :
    (owns (c : Thread nD τ) (m.slice r hr) fullShare X : sProp 𝕄)
      ⊢ iprop((owns (c : Thread nD τ) (m.slice r hr) fullShare w -∗ WP c (k ⟨⟩) Q) -∗ WP c (.op (.store m r w Finset.univ hx hm) k) Q) := by
  unfold owns
  iintro H Hk
  icases H with ⟨%f, %hf, H⟩
  iapply (wp_store 𝒱₀ (c : Thread nD τ) none Set.univ (m := m) (r := r) (S := (m.slice r hr).view.set) (f := f) (Finset.Subset.refl _)) $$ [H]
  · iexact H
  iintro H
  iapply Hk
  iexists _; isplitr; · ipureintro; exact View.read_write_univ (v := m.access r) f w
  iexact H

/-- Loading through a rectangle what is owned as the slice there. -/
theorem wp_load_slot (c : Dev nD) {s : Shape} {e : EltTy} {m : Memref sig .tc .vmem s e} {r : Rect s} {hr : ∀ a, r.stride a = 1} {hl : m.view.LoadsAt r.toLoadRect}
    {α : Type} {Q : α → sProp 𝕄} {k : (r.shape.Idx → Elt F e) → Prog (TpuEff nD τ sig (Elt F) Λ₀ .tc) α} {q : PosShare TreeShare} (X : r.shape.Idx → Elt F e) :
    (owns (c : Thread nD τ) (m.slice r hr) q X : sProp 𝕄)
      ⊢ iprop((owns (c : Thread nD τ) (m.slice r hr) q X -∗ WP c (k X) Q) -∗ WP c (.op (.load m r.toLoadRect hl) k) Q) := by
  unfold owns
  iintro H Hk
  icases H with ⟨%f, %hf, H⟩
  subst hf
  iapply (wp_load_rect 𝒱₀ (c : Thread nD τ) none Set.univ (m := m) (r := r) (S := (m.slice r hr).view.set) (f := f) (Finset.Subset.refl _)) $$ [H]
  · iexact H
  iintro H
  iapply Hk
  iexists _; isplitr; · ipureintro; rfl
  iexact H

/-- A memref sliced at its whole rectangle is owned as the memref is. -/
theorem owns_whole_rect (c : Dev nD) {s : Shape} {e : EltTy} (m : Memref sig .tc .vmem s e) (q : PosShare TreeShare) (X : s.Idx → Elt F e) :
    (owns (c : Thread nD τ) (m.slice (Rect.whole s) (Rect.stride_whole s)) q X : sProp 𝕄) = owns (c : Thread nD τ) m q X := by
  have hset : (m.view.slice (Rect.whole s)).set = m.view.set := by rw [View.set_slice, Rect.set_whole]; rfl
  have hread (f : m.view.ty.Contents (Elt F)) :
      (m.slice (Rect.whole s) (Rect.stride_whole s)).view.read (Elt F) f = m.view.read (Elt F) f := by
    funext y
    exact congrArg (m.view.read (Elt F) f) (Rect.emb_whole_apply s y)
  unfold owns
  have hs : (m.slice (Rect.whole s) (Rect.stride_whole s)).view.set = m.view.set := hset
  rw [hs]
  congr 1; funext f
  rw [hread f]

/-- Storing the whole of an owned memref, -/
theorem wp_store_owns (c : Dev nD) {s : Shape} {e : EltTy} {m : Memref sig .tc .vmem s e} {off : Fin s.rank → Nat} (hz : off = fun _ => 0)
    {inb : ∀ a, off a + s.size a ≤ s.size a} {w : s.Idx → Elt F e}
    {hx : (m.access (Rect.unit off s.size inb)).Stores Finset.univ} {hm : Finset.univ = Finset.univ ∨ ∀ a, (Rect.unit off s.size inb).stride a = 1}
    {α : Type} {Q : α → sProp 𝕄} {k : PUnit → Prog (TpuEff nD τ sig (Elt F) Λ₀ .tc) α} (X : s.Idx → Elt F e) :
    (owns (c : Thread nD τ) m fullShare X : sProp 𝕄)
      ⊢ iprop((owns (c : Thread nD τ) m fullShare w -∗ WP c (k ⟨⟩) Q)
        -∗ WP c (.op (.store m (Rect.unit off s.size inb) w Finset.univ hx hm) k) Q) := by
  subst hz
  have h := wp_store_slot (F := F) c (m := m) (r := Rect.whole s) (hr := Rect.stride_whole s) (w := w) (hx := hx) (hm := hm) (k := k) (Q := Q) X
  rw [owns_whole_rect, owns_whole_rect] at h
  exact h

/-- and loading it. -/
theorem wp_load_owns (c : Dev nD) {s : Shape} {e : EltTy} {m : Memref sig .tc .vmem s e} {off : Fin s.rank → Nat} (hz : off = fun _ => 0)
    {inb : ∀ a, off a + s.size a ≤ s.size a} {hl : m.view.LoadsAt (Rect.unit off s.size inb).toLoadRect} {q : PosShare TreeShare}
    {α : Type} {Q : α → sProp 𝕄} {k : (s.Idx → Elt F e) → Prog (TpuEff nD τ sig (Elt F) Λ₀ .tc) α} (X : s.Idx → Elt F e) :
    (owns (c : Thread nD τ) m q X : sProp 𝕄)
      ⊢ iprop((owns (c : Thread nD τ) m q X -∗ WP c (k X) Q)
        -∗ WP c (.op (.load m (Rect.unit off s.size inb).toLoadRect hl) k) Q) := by
  subst hz
  have h := wp_load_slot (F := F) c (m := m) (r := Rect.whole s) (hr := Rect.stride_whole s) (hl := hl) (k := k) (Q := Q) (q := q) X
  rw [owns_whole_rect] at h
  exact h

/-- The zero offset in one dimension. -/
theorem hz1 : (![0] : Fin 1 → Nat) = fun _ => 0 := by funext a; fin_cases a; rfl
/-- The zero offset in two dimensions. -/
theorem hz2 : (![0, 0] : Fin 2 → Nat) = fun _ => 0 := by funext a; fin_cases a <;> rfl
/-- The zero offset in three dimensions. -/
theorem hz3 : (![0, 0, 0] : Fin 3 → Nat) = fun _ => 0 := by funext a; fin_cases a <;> rfl
/-- The zero offset in four dimensions. -/
theorem hz4 : (![0, 0, 0, 0] : Fin 4 → Nat) = fun _ => 0 := by funext a; fin_cases a <;> rfl

/-! ## Devices, slots and cells as the program names them -/

/-- The first signal goes to the next device. -/
theorem dev1_eq (d : Dev nD) : k0_dev1 d = (pe 0 d).val := by revert d; decide
/-- The second signal goes to the device after it. -/
theorem dev2_eq (d : Dev nD) : k0_dev2 d = (pe 1 d).val := by revert d; decide
/-- The third signal goes to the third device on. -/
theorem dev3_eq (d : Dev nD) : k0_dev3 d = (pe 2 d).val := by revert d; decide
/-- The first copy of weighted sums goes to the next device. -/
theorem dev4_eq (d : Dev nD) : k0_dev4 d = (pe 0 d).val := by revert d; decide
/-- So does the first copy of maxima and sums. -/
theorem dev5_eq (d : Dev nD) : k0_dev5 d = (pe 0 d).val := by revert d; decide
/-- The second copy of weighted sums goes to the device after it. -/
theorem dev6_eq (d : Dev nD) : k0_dev6 d = (pe 1 d).val := by revert d; decide
/-- So does the second copy of maxima and sums. -/
theorem dev7_eq (d : Dev nD) : k0_dev7 d = (pe 1 d).val := by revert d; decide
/-- The third copy of weighted sums goes to the third device on. -/
theorem dev8_eq (d : Dev nD) : k0_dev8 d = (pe 2 d).val := by revert d; decide
/-- So does the third copy of maxima and sums. -/
theorem dev9_eq (d : Dev nD) : k0_dev9 d = (pe 2 d).val := by revert d; decide
/-- The offset of a peer's semaphore is that peer's number. -/
theorem off3_eq (k : Fin 3) (d : Dev nD) : k0_off3 d (BitVec.ofNat 32 (1 + k.val)) = ![(pe k d).val] := by revert k d; decide

/-- The four semaphore arrays. -/
def sems (κ : Fin 4) : DmaSems sig S4 := match κ with
  | ⟨0, _⟩ => cc0_scratch6
  | ⟨1, _⟩ => cc0_scratch7
  | ⟨2, _⟩ => cc0_scratch8
  | ⟨_ + 3, _⟩ => cc0_scratch9

/-- A device's semaphore lies inside the array of semaphores. -/
theorem inb4 (z : Dev nD) : ∀ a, (![z.val] : Fin 1 → Nat) a + S1.size a ≤ S4.size a := by revert z; decide
/-- The semaphore of kind `κ` at device `z`. -/
theorem sems_at (κ : Fin 4) (z : Dev nD) :
    (((sems κ).slice (Rect.unit (s := S4) ![z.val] S1.size (inb4 z))).squeeze S_ squeezes_S1_S_).sem = dsem κ z := by
  fin_cases κ <;> fin_cases z <;> rfl
/-- A semaphore, found by its offset, is that of its device. -/
theorem sems_off (κ : Fin 4) {z : Dev nD} {off : Fin 1 → Nat} (h : off = ![z.val]) (p : ∀ a, off a + S1.size a ≤ S4.size a) :
    (((sems κ).slice (Rect.unit (s := S4) off S1.size p)).squeeze S_ squeezes_S1_S_).sem = dsem κ z := by
  subst h; exact sems_at κ z

/-- A slot of weighted sums, found by its offset, is that of its device. -/
theorem slotA_eq {z : Dev nD} {off : Fin 3 → Nat} (h : off = ![z.val, 0, 0]) (p : ∀ a, off a + S1x64x128.size a ≤ S4x64x128.size a) :
    (accM.slice (Rect.unit (s := S4x64x128) off S1x64x128.size p) (fun _ => rfl)).squeeze S64x128 squeezes_S1x64x128_S64x128 = sqA z := by
  subst h; rfl
/-- A slot of maxima and sums, found by its offset, is that of its device. -/
theorem slotM_eq {z : Dev nD} {off : Fin 3 → Nat} (h : off = ![z.val, 0, 0]) (p : ∀ a, off a + S1x64x2.size a ≤ S4x64x2.size a) :
    (mlM.slice (Rect.unit (s := S4x64x2) off S1x64x2.size p) (fun _ => rfl)).squeeze S64x2 squeezes_S1x64x2_S64x2 = sqM z := by
  subst h; rfl

/-! ## The protocol's steps -/

variable (WA : Dev nD → Vec F S1x64x128 .f32) (WM : Dev nD → Vec F S1x64x2 .f32) (K : Dev nD × Ck → ℕ)

/-- Signalling the `k`-th peer, handing it the landing slots that its copies to this device fill. -/
theorem wp_bar_signal (c n : Dev nD) (k : Fin 3) (hn : n = pe k c) (O₁ O : CellTallies nD τ sig Unit)
    (hO : O₁ = O + tallyAt (barCell (pe k c)) () 1) (W : Waits sig Unit)
    {α : Type} {Q : α → sProp 𝕄} {p : PUnit → Prog (TpuEff nD τ sig (Elt F) Λ₀ .tc) α} :
    iprop(records WA WM K ∗ owes (c : Thread nD τ) O₁ W ∗ dutyTok ER (barCell (pe k c)) 0 k
        ∗ (∃ X, owns (c : Thread nD τ) (slA (pe k c)) fullShare X) ∗ ∃ Y, owns (c : Thread nD τ) (slM (pe k c)) fullShare Y)
      ⊢ iprop((owes (c : Thread nD τ) O W -∗ WP c (p ⟨⟩) Q) -∗ WP c (.op (.semSignal (n : Thread nD τ) barS (1#32 : BitVec 32).toNat) p) Q) := by
  subst hn
  iintro ⟨#HR, HO, Ht, HA, HM⟩ Hk
  iapply (Rounds.wp_signal 𝒱₀ ER (Rd WA WM) (c : Thread nD τ) none (dst := (pe k c : Thread nD τ)) (κ := K (pe k c, .inl ()))
      (d := k) (by rw [duties_bar]; exact Finset.mem_univ _) ((amount_bar WA WM (pe k c) k).trans (by decide)) () O hO)
    $$ [HO Ht HA HM]
  · isplitr; · iapply (records_inv WA WM K (pe k c, .inl ())); iexact HR
    isplitl [HO]; · iexact HO
    isplitl [Ht]; · iexact Ht
    isplitl [HA HM]
    · rw [payload_bar]; unfold barPay; rw [pe_rev]
      isplitl [HA] <;> iassumption
    iapply (records_reached WA WM K (pe k c, .inl ())); iexact HR
  iexact Hk

/-- The barrier wait, owing the copies: the three peers' landing slots for this device. -/
theorem wp_bar_wait (c : Dev nD) (W : Waits sig Unit)
    {α : Type} {Q : α → sProp 𝕄} {p : PUnit → Prog (TpuEff nD τ sig (Elt F) Λ₀ .tc) α} :
    iprop(records WA WM K ∗ levAts L lv ∗ owes (c : Thread nD τ) (Os c) W ∗ cred (tallyAt (barCell c) () 3) ∗ atPos ER (barCell c) 0 ∅ 0)
      ⊢ iprop((owes (c : Thread nD τ) (Os c) (insert (SemLoc.reg barS, ()) W) ∗ atPos ER (barCell c) 1 ∅ 0
            ∗ bigSep Finset.univ (fun k : Fin 3 => iprop((∃ X, owns (pe k c : Thread nD τ) (slA c) fullShare X) ∗ ∃ Y, owns (pe k c : Thread nD τ) (slM c) fullShare Y))
          -∗ WP c (p ⟨⟩) Q) -∗ WP c (.op (.semWait barS (3#32 : BitVec 32).toNat) p) Q) := by
  iintro ⟨#HR, #Hlev, HO, Hc, Hat⟩ Hk
  iapply (Rounds.wp_wait_rest_token 𝒱₀ ER (Rd WA WM) (c : Thread nD τ) none (κ := K (c, .inl ()))
      (wpE_semWait_eq 𝒱₀ (c : Thread nD τ) none Set.univ) (Set.mem_univ _) () (O := Os c) (W := W) (R := 0) (m := 0) (T := ∅)
      (by rw [expect_bar]; decide)) $$ [Hc HO Hat]
  · isplitr; · iapply (records_inv WA WM K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar WA WM c)) $$ Hpay
  iapply Hk
  isplitl [HO]; · iexact HO
  isplitl [Hat]; · iexact Hat
  rw [bigSep_three]
  unfold barPay
  icases Hp with ⟨H0, H1, H2⟩
  isplitl [H2]; · iexact H2
  isplitl [H1]; · iexact H1
  iexact H0

/-- A copy of the device's own slot to the `k`-th peer, in either table. -/
theorem wp_send_slot (c n : Dev nD) (k : Fin 3) (hn : n = pe k c) {s : Shape} (M src : Memref sig .tc .vmem s .f32)
    (dst : Memref sig (Dev.tc n : Thread nD τ).2.kind .vmem s .f32) (hs : src = M) (hd : dst = M)
    (κs κr : Fin 4) (sS sR : DmaSem sig) (h₁ : sS = dsem κs (pe k c)) (h₂ : sR = dsem κr c)
    (X : s.Idx → Elt F .f32) (N : ℕ) (hN : M.view.dmaCredit = N) (hs₁ : NN κs = N) (hr₁ : NN κr = N)
    (hp₁ : dmaPay WA WM c κs (pe k c) = owns (c : Thread nD τ) M (qs (pe k c)) X)
    (hp₂ : dmaPay WA WM (pe k c) κr c = owns (pe k c : Thread nD τ) M fullShare X)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {p : PUnit → Prog (TpuEff nD τ sig (Elt F) Λ₀ .tc) α}
    (O₁ O : CellTallies nD τ sig Unit) (hO : O₁ = O + tallyAt (dcell (pe k c) κr c) () N) (W : Waits sig Unit) :
    iprop(records WA WM K ∗ owns (c : Thread nD τ) M (qs (pe k c)) X ∗ (∃ Y, owns (pe k c : Thread nD τ) M fullShare Y)
        ∗ owes (c : Thread nD τ) O₁ W ∗ dutyTok ER (dcell c κs (pe k c)) 0 0 ∗ dutyTok ER (dcell (pe k c) κr c) 0 0)
      ⊢ iprop(((cred (tallyAt (dcell c κs (pe k c)) () N) ∗ owes (c : Thread nD τ) O W) -∗ WP c (p ⟨⟩) Q)
          -∗ WP c (.op (.enqueueDma src (.remote (Dev.tc n : Thread nD τ) dst (.dma sS) hsc) (.dma sR) hsrc hdst hsem) p) Q) := by
  subst hn; subst hs; subst h₁; subst h₂
  have hd' : dst = src := hd
  subst hd'
  unfold owns at hp₁ hp₂ ⊢
  iintro ⟨#HR, Hsrc, ⟨%Y, Hdst⟩, HO, HtS, HtR⟩ Hk
  icases Hsrc with ⟨%fs, %hfs, Hsrc⟩
  icases Hdst with ⟨%fd, -, Hdst⟩
  iapply (Rounds.wp_send_pointsTo 𝒱₀ ER (Rd WA WM) (c : Thread nD τ) none (κ₁ := K (c, .inr (κs, pe k c))) (κ₂ := K (pe k c, .inr (κr, c)))
    (r₁ := 0) (r₂ := 0) (d₁ := 0) (d₂ := 0) (fs := fs) (fd := fd)
    (by rw [duties_peer WA WM c κs (pe_ne k c)]; exact Finset.mem_singleton_self _)
    (by rw [duties_peer WA WM (pe k c) κr (pe_ne k c).symm]; exact Finset.mem_singleton_self _)
    () () N (show dst.view.amount (SemLoc.dma (dsem κr c)) = N from hN) ((amount_dma WA WM c κs (pe k c) 0).trans hs₁) ((amount_dma WA WM (pe k c) κr c 0).trans hr₁) O hO (W := W)
    (by
      rw [payload_dma, hp₁]
      iintro H; iexists fs; isplitr; · ipureintro; exact hfs
      iexact H)
    (by
      rw [payload_dma, hp₂]
      iintro H; iexists (dst.view.write (Elt F) fd (dst.view.read (Elt F) fs) Finset.univ); isplitr; · ipureintro; exact (View.read_write_univ fd _).trans hfs
      iexact H)) $$ [Hsrc Hdst HO HtS HtR]
  · isplitr; · iapply (records_inv WA WM K (c, .inr (κs, pe k c))); iexact HR
    isplitr; · iapply (records_inv WA WM K (pe k c, .inr (κr, c))); iexact HR
    isplitl [Hsrc]; · iexact Hsrc
    isplitl [Hdst]; · iexact Hdst
    isplitl [HO]; · iexact HO
    isplitl [HtS]; · iexact HtS
    isplitr; · iapply (records_reached WA WM K (c, .inr (κs, pe k c))); iexact HR
    isplitl [HtR]; · iexact HtR
    iapply (records_reached WA WM K (pe k c, .inr (κr, c))); iexact HR
  iexact Hk

/-- A wait on the device's DMA cell for its `k`-th peer, owing nothing: the cell's payload. -/
theorem wp_dma_wait (c : Dev nD) (k : Fin 3) (κ : Fin 4) (sR : DmaSem sig) (h : sR = dsem κ (pe k c)) (N : ℕ) (hκ : NN κ = N)
    {s : Shape} {src dst : Memref sig .tc .vmem s .f32} (hN : dst.view.dmaCredit = N) {hsrc : src.view.WordExact} {hdst : dst.view.WordExact} (W : Waits sig Unit)
    {α : Type} {Q : α → sProp 𝕄} {p : PUnit → Prog (TpuEff nD τ sig (Elt F) Λ₀ .tc) α} :
    iprop(records WA WM K ∗ owes (c : Thread nD τ) 0 W ∗ cred (tallyAt (dcell c κ (pe k c)) () N) ∗ atPos ER (dcell c κ (pe k c)) 0 ∅ 0)
      ⊢ iprop((owes (c : Thread nD τ) 0 (insert (SemLoc.dma (dsem κ (pe k c)), ()) W) ∗ atPos ER (dcell c κ (pe k c)) 1 ∅ 0 ∗ dmaPay WA WM c κ (pe k c)
          -∗ WP c (p ⟨⟩) Q) -∗ WP c (.op (.waitDma2 sR src dst hsrc hdst) p) Q) := by
  subst h
  subst hN
  iintro ⟨#HR, HO, Hc, Hat⟩ Hk
  iapply (Rounds.wp_wait_rest_token 𝒱₀ ER (Rd WA WM) (c : Thread nD τ) none (κ := K (c, .inr (κ, pe k c)))
      (wpE_waitDma2_eq 𝒱₀ (c : Thread nD τ) none Set.univ) (Set.mem_univ _) () (O := 0) (W := W) (R := 0) (m := 0) (T := ∅)
      (by rw [Nat.zero_add]; exact hκ.symm.trans (expect_dma WA WM c κ (pe_ne k c)).symm)) $$ [Hc HO Hat]
  · isplitr; · iapply (records_inv WA WM K (c, .inr (κ, pe k c))); iexact HR
    isplitl [Hc]; · iexact Hc
    isplitl [HO]; · iexact HO
    isplitr; · rw [MayWait_zero]; iempintro
    iexact Hat
  iintro ⟨HO, Hat, -, Hpay⟩
  ihave Hp := (Entails.of_eq (rest_dma WA WM c κ (pe_ne k c))) $$ Hpay
  iapply Hk
  isplitl [HO]; · iexact HO
  isplitl [Hat] <;> iassumption

end Cert.KernelIdeal.Exchange

end
-- ==== Proof.Exchange.lean ====
/-
# The exchange

What the last grid point runs after its block: the entry signals, the device's own slots, six copies, twelve waits,
and the merge of the four devices' tables.
-/
module

public import proofs.«01_k».proof.Proof.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (WA : Dev nD → Vec F S1x64x128 .f32) (WM : Dev nD → Vec F S1x64x2 .f32) (K : Dev nD × Ck → ℕ)

/-! ## The tables, whole and by slots -/

/-- The tables holding every device's slot. -/
def commA : Vec F S4x64x128 .f32 := fun x => WA (x 0) (fun | ⟨0, _⟩ => (0 : Fin 1) | ⟨1, _⟩ => x 1 | ⟨2, _⟩ => x 2)
/-- The array of all devices' maxima and sums, slot by slot. -/
def commM : Vec F S4x64x2 .f32 := fun x => WM (x 0) (fun | ⟨0, _⟩ => (0 : Fin 1) | ⟨1, _⟩ => x 1 | ⟨2, _⟩ => x 2)

/-- Slot `z` of the array of weighted sums is what device `z` sent. -/
theorem commA_emb (z : Dev nD) : (fun j => commA WA ((rectA z).emb j)) = WA z := by
  funext j
  unfold commA
  have h0 : ((rectA z).emb j 0) = z := by
    apply Fin.ext; have := (j 0).isLt
    show z.val + 1 * (j 0).val = z.val
    have : (j 0).val < 1 := this
    omega
  rw [h0]; congr 1; funext a
  fin_cases a
  · exact Subsingleton.elim (α := Fin 1) _ _
  · apply Fin.ext; show 0 + 1 * (j 1).val = (j 1).val; omega
  · apply Fin.ext; show 0 + 1 * (j 2).val = (j 2).val; omega
/-- Slot `z` of the array of maxima and sums is what device `z` sent. -/
theorem commM_emb (z : Dev nD) : (fun j => commM WM ((rectM z).emb j)) = WM z := by
  funext j
  unfold commM
  have h0 : ((rectM z).emb j 0) = z := by
    apply Fin.ext; have := (j 0).isLt
    show z.val + 1 * (j 0).val = z.val
    have : (j 0).val < 1 := this
    omega
  rw [h0]; congr 1; funext a
  fin_cases a
  · exact Subsingleton.elim (α := Fin 1) _ _
  · apply Fin.ext; show 0 + 1 * (j 1).val = (j 1).val; omega
  · apply Fin.ext; show 0 + 1 * (j 2).val = (j 2).val; omega

/-- Two slots of the weighted sums have no element in common. -/
theorem rectA_disj (z z' : Dev nD) (h : z ≠ z') : Disjoint (rectA z).set (rectA z').set :=
  Rect.unit_disjoint 0 (by
    have : z.val ≠ z'.val := fun h' => h (Fin.ext h')
    show z.val + 1 ≤ z'.val ∨ z'.val + 1 ≤ z.val; omega)
/-- Two slots of the maxima and sums have no element in common. -/
theorem rectM_disj (z z' : Dev nD) (h : z ≠ z') : Disjoint (rectM z).set (rectM z').set :=
  Rect.unit_disjoint 0 (by
    have : z.val ≠ z'.val := fun h' => h (Fin.ext h')
    show z.val + 1 ≤ z'.val ∨ z'.val + 1 ≤ z.val; omega)
/-- The slots of the weighted sums are the whole array. -/
theorem rectA_cov : (Finset.univ : Finset (Dev nD)).biUnion (fun z => (rectA z).set) = Finset.univ := by
  ext i
  simp only [Finset.mem_biUnion, Finset.mem_univ, true_and, iff_true]
  refine ⟨i 0, Rect.mem_set_unit.mpr fun a => ?_⟩
  have h1 := (i 1).isLt; have h2 := (i 2).isLt
  fin_cases a
  · exact ⟨le_rfl, Nat.lt_succ_self _⟩
  · exact ⟨Nat.zero_le _, by simpa using h1⟩
  · exact ⟨Nat.zero_le _, by simpa using h2⟩
/-- The slots of the maxima and sums are the whole array. -/
theorem rectM_cov : (Finset.univ : Finset (Dev nD)).biUnion (fun z => (rectM z).set) = Finset.univ := by
  ext i
  simp only [Finset.mem_biUnion, Finset.mem_univ, true_and, iff_true]
  refine ⟨i 0, Rect.mem_set_unit.mpr fun a => ?_⟩
  have h1 := (i 1).isLt; have h2 := (i 2).isLt
  fin_cases a
  · exact ⟨le_rfl, Nat.lt_succ_self _⟩
  · exact ⟨Nat.zero_le _, by simpa using h1⟩
  · exact ⟨Nat.zero_le _, by simpa using h2⟩

instance elt_nonempty : ∀ e, Nonempty (Elt F e) := fun e => by
  cases e <;> first | exact ⟨0⟩ | exact ⟨FloatOps.ofBits _ 0⟩

/-- What is owned at some contents is owned. -/
theorem owns_some (c : Dev nD) {s : Shape} {e : EltTy} (m : Memref sig .tc .vmem s e) (X : s.Idx → Elt F e) :
    (owns (c : Thread nD τ) m fullShare X : sProp 𝕄) ⊢ iprop(∃ X, owns (c : Thread nD τ) m fullShare X) := by
  iintro H; iexists _; iexact H

/-- A table at any contents is its four slots, read from device `c`: its own and those of its peers. -/
theorem splitA (c : Dev nD) : (iprop(∃ X, owns (c : Thread nD τ) accM fullShare X) : sProp 𝕄)
    ⊢ iprop((∃ X, owns (c : Thread nD τ) (slA c) fullShare X) ∗ (∃ X, owns (c : Thread nD τ) (slA (pe 0 c)) fullShare X)
      ∗ (∃ X, owns (c : Thread nD τ) (slA (pe 1 c)) fullShare X) ∗ ∃ X, owns (c : Thread nD τ) (slA (pe 2 c)) fullShare X) := by
  rw [← bigSep_peers c fun z => iprop(∃ X, owns (c : Thread nD τ) (slA z) fullShare X)]
  iintro ⟨%X, H⟩
  iapply (show (owns (c : Thread nD τ) accM fullShare X : sProp 𝕄) ⊢ bigSep Finset.univ fun z => iprop(∃ X, owns (c : Thread nD τ) (slA z) fullShare X) from
    (owns_rects (c : Thread nD τ) accM fullShare rectA (fun _ _ => rfl) rectA_disj rectA_cov X).trans (bigSep_mono fun z _ => owns_some c (slA z) _)) $$ H
/-- The array of maxima and sums, split into its slots. -/
theorem splitM (c : Dev nD) : (iprop(∃ X, owns (c : Thread nD τ) mlM fullShare X) : sProp 𝕄)
    ⊢ iprop((∃ X, owns (c : Thread nD τ) (slM c) fullShare X) ∗ (∃ X, owns (c : Thread nD τ) (slM (pe 0 c)) fullShare X)
      ∗ (∃ X, owns (c : Thread nD τ) (slM (pe 1 c)) fullShare X) ∗ ∃ X, owns (c : Thread nD τ) (slM (pe 2 c)) fullShare X) := by
  rw [← bigSep_peers c fun z => iprop(∃ X, owns (c : Thread nD τ) (slM z) fullShare X)]
  iintro ⟨%X, H⟩
  iapply (show (owns (c : Thread nD τ) mlM fullShare X : sProp 𝕄) ⊢ bigSep Finset.univ fun z => iprop(∃ X, owns (c : Thread nD τ) (slM z) fullShare X) from
    (owns_rects (c : Thread nD τ) mlM fullShare rectM (fun _ _ => rfl) rectM_disj rectM_cov X).trans (bigSep_mono fun z _ => owns_some c (slM z) _)) $$ H

/-- Four slots holding the four devices' tables are the table. -/
theorem joinA (c : Dev nD) : (iprop(owns (c : Thread nD τ) (slA c) fullShare (WA c) ∗ owns (c : Thread nD τ) (slA (pe 0 c)) fullShare (WA (pe 0 c))
      ∗ owns (c : Thread nD τ) (slA (pe 1 c)) fullShare (WA (pe 1 c)) ∗ owns (c : Thread nD τ) (slA (pe 2 c)) fullShare (WA (pe 2 c))) : sProp 𝕄)
    ⊢ owns (c : Thread nD τ) accM fullShare (commA WA) := by
  rw [← bigSep_peers c fun z => owns (c : Thread nD τ) (slA z) fullShare (WA z)]
  refine BI.Entails.trans (Entails.of_eq (bigSep_congr fun z _ => ?_)) (owns_of_rects (c : Thread nD τ) accM fullShare rectA (fun _ _ => rfl) rectA_disj rectA_cov (commA WA))
  rw [commA_emb]
/-- The slots of maxima and sums, each with what its device sent, joined into the array. -/
theorem joinM (c : Dev nD) : (iprop(owns (c : Thread nD τ) (slM c) fullShare (WM c) ∗ owns (c : Thread nD τ) (slM (pe 0 c)) fullShare (WM (pe 0 c))
      ∗ owns (c : Thread nD τ) (slM (pe 1 c)) fullShare (WM (pe 1 c)) ∗ owns (c : Thread nD τ) (slM (pe 2 c)) fullShare (WM (pe 2 c))) : sProp 𝕄)
    ⊢ owns (c : Thread nD τ) mlM fullShare (commM WM) := by
  rw [← bigSep_peers c fun z => owns (c : Thread nD τ) (slM z) fullShare (WM z)]
  refine BI.Entails.trans (Entails.of_eq (bigSep_congr fun z _ => ?_)) (owns_of_rects (c : Thread nD τ) mlM fullShare rectM (fun _ _ => rfl) rectM_disj rectM_cov (commM WM))
  rw [commM_emb]

/-- A slot owned whole is a quarter for each device, read from device `c`. -/
theorem quarters (c : Dev nD) {s : Shape} {e : EltTy} (m : Memref sig .tc .vmem s e) (W : s.Idx → Elt F e) :
    (owns (c : Thread nD τ) m fullShare W : sProp 𝕄) ⊣⊢ iprop(owns (c : Thread nD τ) m (qs c) W ∗ owns (c : Thread nD τ) m (qs (pe 0 c)) W
      ∗ owns (c : Thread nD τ) m (qs (pe 1 c)) W ∗ owns (c : Thread nD τ) m (qs (pe 2 c)) W) := by
  rw [← bigSep_peers c fun z => owns (c : Thread nD τ) m (qs z) W]; exact owns_quarters c m W

/-- A slot as the program's rectangles name it. -/
theorem owns_offA (c : Dev nD) {z : Dev nD} {off : Fin 3 → Nat} (h : off = ![z.val, 0, 0]) (p : ∀ a, off a + S1x64x128.size a ≤ S4x64x128.size a)
    (q : PosShare TreeShare) (X : S1x64x128.Idx → Elt F .f32) :
    (owns (c : Thread nD τ) (accM.slice (Rect.unit (s := S4x64x128) off S1x64x128.size p) (fun _ => rfl)) q X : sProp 𝕄) = owns (c : Thread nD τ) (slA z) q X := by
  subst h; rfl
/-- A slot of maxima and sums, found by its offset, is the slot of that device. -/
theorem owns_offM (c : Dev nD) {z : Dev nD} {off : Fin 3 → Nat} (h : off = ![z.val, 0, 0]) (p : ∀ a, off a + S1x64x2.size a ≤ S4x64x2.size a)
    (q : PosShare TreeShare) (X : S1x64x2.Idx → Elt F .f32) :
    (owns (c : Thread nD τ) (mlM.slice (Rect.unit (s := S4x64x2) off S1x64x2.size p) (fun _ => rfl)) q X : sProp 𝕄) = owns (c : Thread nD τ) (slM z) q X := by
  subst h; rfl

/-! ## The copies, each table -/

/-- The device's slot of value sums copied to its `k`-th peer, -/
theorem wp_sendA (c n : Dev nD) (k : Fin 3) (hn : n = pe k c) (src : Memref sig .tc .vmem S64x128 .f32)
    (dst : Memref sig (Dev.tc n : Thread nD τ).2.kind .vmem S64x128 .f32) (hs : src = sqA c) (hd : dst = sqA c)
    (sS sR : DmaSem sig) (h₁ : sS = dsem 0 (pe k c)) (h₂ : sR = dsem 1 c)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {p : PUnit → Prog (TpuEff nD τ sig (Elt F) Λ₀ .tc) α}
    (O₁ O : CellTallies nD τ sig Unit) (hO : O₁ = O + tallyAt (dcell (pe k c) 1 c) () NA) (W : Waits sig Unit) :
    iprop(records WA WM K ∗ owns (c : Thread nD τ) (slA c) (qs (pe k c)) (WA c) ∗ (∃ Y, owns (pe k c : Thread nD τ) (slA c) fullShare Y)
        ∗ owes (c : Thread nD τ) O₁ W ∗ dutyTok ER (dcell c 0 (pe k c)) 0 0 ∗ dutyTok ER (dcell (pe k c) 1 c) 0 0)
      ⊢ iprop(((cred (tallyAt (dcell c 0 (pe k c)) () NA) ∗ owes (c : Thread nD τ) O W) -∗ WP c (p ⟨⟩) Q)
          -∗ WP c (.op (.enqueueDma src (.remote (Dev.tc n : Thread nD τ) dst (.dma sS) hsc) (.dma sR) hsrc hdst hsem) p) Q) := by
  iintro ⟨HR, Hs, ⟨%Y, Hd⟩, H⟩ Hk
  ihave Hs := (Entails.of_eq (owns_squeeze c (slA c) squeezes_S1x64x128_S64x128 (qs (pe k c)) (WA c)).symm) $$ Hs
  ihave Hd := (Entails.of_eq (owns_squeeze (pe k c) (slA c) squeezes_S1x64x128_S64x128 fullShare Y).symm) $$ Hd
  iapply (wp_send_slot WA WM K c n k hn (sqA c) src dst hs hd 0 1 sS sR h₁ h₂
    (fun x => WA c (Shape.reshapeEquiv squeezes_S1x64x128_S64x128.numel_eq x)) NA rfl rfl rfl
    (owns_squeeze c (slA c) squeezes_S1x64x128_S64x128 (qs (pe k c)) (WA c)).symm
    (owns_squeeze (pe k c) (slA c) squeezes_S1x64x128_S64x128 fullShare (WA c)).symm O₁ O hO W) $$ [HR Hs Hd H]
  · isplitl [HR]; · iexact HR
    isplitl [Hs]; · iexact Hs
    isplitl [Hd]; · iexists _; iexact Hd
    iexact H
  iexact Hk
/-- and the device's slot of maxima and sums. -/
theorem wp_sendM (c n : Dev nD) (k : Fin 3) (hn : n = pe k c) (src : Memref sig .tc .vmem S64x2 .f32)
    (dst : Memref sig (Dev.tc n : Thread nD τ).2.kind .vmem S64x2 .f32) (hs : src = sqM c) (hd : dst = sqM c)
    (sS sR : DmaSem sig) (h₁ : sS = dsem 2 (pe k c)) (h₂ : sR = dsem 3 c)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {p : PUnit → Prog (TpuEff nD τ sig (Elt F) Λ₀ .tc) α}
    (O₁ O : CellTallies nD τ sig Unit) (hO : O₁ = O + tallyAt (dcell (pe k c) 3 c) () NM) (W : Waits sig Unit) :
    iprop(records WA WM K ∗ owns (c : Thread nD τ) (slM c) (qs (pe k c)) (WM c) ∗ (∃ Y, owns (pe k c : Thread nD τ) (slM c) fullShare Y)
        ∗ owes (c : Thread nD τ) O₁ W ∗ dutyTok ER (dcell c 2 (pe k c)) 0 0 ∗ dutyTok ER (dcell (pe k c) 3 c) 0 0)
      ⊢ iprop(((cred (tallyAt (dcell c 2 (pe k c)) () NM) ∗ owes (c : Thread nD τ) O W) -∗ WP c (p ⟨⟩) Q)
          -∗ WP c (.op (.enqueueDma src (.remote (Dev.tc n : Thread nD τ) dst (.dma sS) hsc) (.dma sR) hsrc hdst hsem) p) Q) := by
  iintro ⟨HR, Hs, ⟨%Y, Hd⟩, H⟩ Hk
  ihave Hs := (Entails.of_eq (owns_squeeze c (slM c) squeezes_S1x64x2_S64x2 (qs (pe k c)) (WM c)).symm) $$ Hs
  ihave Hd := (Entails.of_eq (owns_squeeze (pe k c) (slM c) squeezes_S1x64x2_S64x2 fullShare Y).symm) $$ Hd
  iapply (wp_send_slot WA WM K c n k hn (sqM c) src dst hs hd 2 3 sS sR h₁ h₂
    (fun x => WM c (Shape.reshapeEquiv squeezes_S1x64x2_S64x2.numel_eq x)) NM rfl rfl rfl
    (owns_squeeze c (slM c) squeezes_S1x64x2_S64x2 (qs (pe k c)) (WM c)).symm
    (owns_squeeze (pe k c) (slM c) squeezes_S1x64x2_S64x2 fullShare (WM c)).symm O₁ O hO W) $$ [HR Hs Hd H]
  · isplitl [HR]; · iexact HR
    isplitl [Hs]; · iexact Hs
    isplitl [Hd]; · iexists _; iexact Hd
    iexact H
  iexact Hk

/-! ## A device's cells, before and after -/

/-- The positions a device starts from, one by one. -/
theorem positions_eq (c : Dev nD) : (positions (F := F) c) = iprop(atPos ER (barCell c) 0 ∅ 0
    ∗ (atPos ER (dcell c 0 c) 0 ∅ 0 ∗ atPos ER (dcell c 0 (pe 0 c)) 0 ∅ 0 ∗ atPos ER (dcell c 0 (pe 1 c)) 0 ∅ 0 ∗ atPos ER (dcell c 0 (pe 2 c)) 0 ∅ 0)
    ∗ (atPos ER (dcell c 1 c) 0 ∅ 0 ∗ atPos ER (dcell c 1 (pe 0 c)) 0 ∅ 0 ∗ atPos ER (dcell c 1 (pe 1 c)) 0 ∅ 0 ∗ atPos ER (dcell c 1 (pe 2 c)) 0 ∅ 0)
    ∗ (atPos ER (dcell c 2 c) 0 ∅ 0 ∗ atPos ER (dcell c 2 (pe 0 c)) 0 ∅ 0 ∗ atPos ER (dcell c 2 (pe 1 c)) 0 ∅ 0 ∗ atPos ER (dcell c 2 (pe 2 c)) 0 ∅ 0)
    ∗ (atPos ER (dcell c 3 c) 0 ∅ 0 ∗ atPos ER (dcell c 3 (pe 0 c)) 0 ∅ 0 ∗ atPos ER (dcell c 3 (pe 1 c)) 0 ∅ 0 ∗ atPos ER (dcell c 3 (pe 2 c)) 0 ∅ 0)) := by
  unfold positions
  rw [bigSep_univ_sum, bigSep_univ_prod, bigSep_four, bigSep_peers c, bigSep_peers c, bigSep_peers c, bigSep_peers c,
    show (Finset.univ : Finset Unit) = {()} from rfl, bigSep_singleton]
  rfl

/-- The four cells of one kind at their ends, closed: their counters at zero. -/
theorem close_kind (c : Dev nD) (κ : Fin 4) :
    (iprop(records WA WM K ∗ atPos ER (dcell c κ c) 0 ∅ 0 ∗ atPos ER (dcell c κ (pe 0 c)) 1 ∅ 0 ∗ atPos ER (dcell c κ (pe 1 c)) 1 ∅ 0
        ∗ atPos ER (dcell c κ (pe 2 c)) 1 ∅ 0) : sProp 𝕄)
      ⊢ iprop(|={Set.univ}=> bigSep Finset.univ fun z => semVal (dcell c κ z) 0) := by
  rw [bigSep_peers c]
  have hcl (z : Dev nD) (R : ℕ) (hR : ∀ r, R ≤ r → (Rd (F := F) WA WM).duties (dcell c κ z) r = ∅) :
      (iprop(records WA WM K ∗ atPos ER (dcell c κ z) R ∅ 0) : sProp 𝕄) ⊢ iprop(|={Set.univ}=> semVal (dcell c κ z) 0) :=
    BI.Entails.trans (sep_mono_left (records_inv WA WM K (c, .inr (κ, z))))
      (Rounds.cell_close ER (Rd WA WM) (Set.mem_univ (K (c, .inr (κ, z)))) (fun h => h) (R := R) hR)
  iintro ⟨#HR, H, H0, H1, H2⟩
  imod (hcl c 0 (duties_self WA WM c κ)) $$ [H] with H
  · isplitr; · iexact HR
    iexact H
  imod (hcl (pe 0 c) 1 (duties_later WA WM _)) $$ [H0] with H0
  · isplitr; · iexact HR
    iexact H0
  imod (hcl (pe 1 c) 1 (duties_later WA WM _)) $$ [H1] with H1
  · isplitr; · iexact HR
    iexact H1
  imod (hcl (pe 2 c) 1 (duties_later WA WM _)) $$ [H2] with H2
  · isplitr; · iexact HR
    iexact H2
  imodintro
  isplitl [H]; · iexact H
  isplitl [H0]; · iexact H0
  isplitl [H1] <;> iassumption

/-- Every cell of a device closed. -/
def closed (c : Dev nD) : sProp 𝕄 :=
  iprop(semVal (barCell c) 0 ∗ bigSep Finset.univ fun kz : Fin 4 × Dev nD => semVal (dcell c kz.1 kz.2) 0)

/-- What a device ends with: its barrier at zero and each of its copies' semaphores at zero. -/
theorem closed_eq (c : Dev nD) : (closed (F := F) c) = iprop(semVal (barCell c) 0 ∗ (bigSep Finset.univ fun z => semVal (dcell c 0 z) 0)
    ∗ (bigSep Finset.univ fun z => semVal (dcell c 1 z) 0) ∗ (bigSep Finset.univ fun z => semVal (dcell c 2 z) 0)
    ∗ bigSep Finset.univ fun z => semVal (dcell c 3 z) 0) := by
  unfold closed
  rw [bigSep_univ_prod]
  exact congrArg (fun X => iprop(semVal (barCell c) 0 ∗ X)) (bigSep_four fun κ => bigSep Finset.univ fun z : Dev nD => semVal (dcell c κ z) 0)

/-! ## The program -/

variable (i : grid0.Coords)
  (A1 : Memref sig .tc .vmem S8x1x8x128 .bf16) (hA1 : A1.IsWhole) (A2 : Memref sig .tc .vmem S64x16x8x128 .bf16) (hA2 : A2.IsWhole)
  (A3 : Memref sig .tc .vmem S64x16x8x128 .bf16) (hA3 : A3.IsWhole) (A4 : Memref sig .tc .vmem S8x512 .i32) (hA4 : A4.IsWhole)
  (A5 : Memref sig .tc .vmem S8 .i32) (hA5 : A5.IsWhole) (A6 : Memref sig .tc .vmem S8x1x8x128 .f32) (hA6 : A6.IsWhole)

/-- The last grid point after its block, on device `d0`. -/
def exchProg (d0 : Dev nD) (v2 : BitVec 32) (k0_h2 : k0_cond2 i = 1#1) : Prog (TpuEff nD τ sig (Elt F) Λ₀ .tc) PUnit := do
    let ⟨v93, v122, v123, v124, c0_i32_61⟩ : Σ' (v93 : Sems sig S_) (v122 : BitVec 32) (v123 : BitVec 32) (v124 : BitVec 1), BitVec 32 ← k0_part2 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 d0 v2 k0_h2
    let v157 : BitVec 32 ← k0_part3 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 d0 v2 k0_h2 v93 v122 v123 v124 c0_i32_61
    let v188 : BitVec 32 ← k0_part4 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 d0 v2 k0_h2 v157
    let v219 : BitVec 32 ← k0_part5 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 d0 v2 k0_h2 v188
    k0_part6 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 d0 v2 k0_h2 v219
    let ⟨v294, c4_i32_173, v295, c1_i32_175⟩ : Σ' (v294 : BitVec 32) (c4_i32_173 : BitVec 32) (v295 : BitVec 1), BitVec 32 ← k0_part7 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 d0 v2 k0_h2
    k0_part8 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 d0 k0_h2 v294 c4_i32_173 v295 c1_i32_175
    let ⟨v358, v359⟩ : Σ' (v358 : FVec F S4x64x1 .f32), FVec F S4x64x1 .f32 ← k0_part9 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 d0 k0_h2
    let v367 : Vec F S4x64x128 .f32 ← Prog.lift (.load accM (Rect.unit (s := S4x64x128) ![0, 0, 0] S4x64x128.size inb_S4x64x128_S4x64x128_0_0_0).toLoadRect (View.loadsAt_vmem h_S4x64x128))
    let v374 : Vec F S8x1x8x128 .f32 ← Prog.lift (.load A6 (Rect.unit (s := S8x1x8x128) ![0, 0, 0, 0] S8x1x8x128.size inb_S8x1x8x128_S8x1x8x128_0_0_0_0).toLoadRect (View.loadsAt_vmem h_S8x1x8x128))
    Prog.lift (.store A6 (Rect.unit (s := S8x1x8x128) ![0, 0, 0, 0] S8x1x8x128.size inb_S8x1x8x128_S8x1x8x128_0_0_0_0) (k0_pay3 v358 v359 v367) Finset.univ (View.stores_vmem_bits_univ h_S8x1x8x128 rfl) (.inl rfl))
    pure ⟨⟩

/-- The scratch of running maxima. -/
abbrev mM : Memref sig .tc .vmem S64x1 .f32 := Memref.whole cc0_scratch1
/-- The scratch of running sums. -/
abbrev lM : Memref sig .tc .vmem S64x1 .f32 := Memref.whole cc0_scratch2
/-- The scratch of running weighted sums. -/
abbrev aM : Memref sig .tc .vmem S64x128 .f32 := Memref.whole cc0_scratch3
/-- The scratch of the penalty between heads. -/
abbrev pM : Memref sig .tc .vmem S64x8192 .f32 := Memref.whole cc0_scratch0

/-- The merged result. -/
def merged : Vec F S8x1x8x128 .f32 := k0_pay3 (k0_pay13 (commM WM)) (k0_pay14 (commM WM)) (commA WA)

set_option maxHeartbeats 4000000 in
set_option maxRecDepth 65536 in
/-- The exchange on device `c`, started from the protocol's resources, ends with the merged result stored and every
    cell closed. -/
theorem wp_exch (c : Dev nD) (v2 : BitVec 32) (h2 : k0_cond2 i = 1#1) (W : Waits sig Unit)
    (m l : Vec F S64x1 .f32) (a : Vec F S64x128 .f32) (hA : WA c = k0_pay11 a) (hM : WM c = k0_pay12 m l)
    (o : Vec F S8x1x8x128 .f32) {Q : PUnit → sProp 𝕄} :
    iprop(start WA WM c ∗ owes (c : Thread nD τ) (O₀ c) W ∗ owns (c : Thread nD τ) mM fullShare m ∗ owns (c : Thread nD τ) lM fullShare l
        ∗ owns (c : Thread nD τ) aM fullShare a ∗ (∃ X, owns (c : Thread nD τ) accM fullShare X) ∗ (∃ X, owns (c : Thread nD τ) mlM fullShare X)
        ∗ owns (c : Thread nD τ) A6 fullShare o)
      ⊢ iprop(((∃ W', owes (c : Thread nD τ) 0 W') ∗ owns (c : Thread nD τ) mM fullShare m ∗ owns (c : Thread nD τ) lM fullShare l
          ∗ owns (c : Thread nD τ) aM fullShare a ∗ (∃ X, owns (c : Thread nD τ) accM fullShare X) ∗ (∃ X, owns (c : Thread nD τ) mlM fullShare X)
          ∗ owns (c : Thread nD τ) A6 fullShare (merged WA WM) ∗ closed c -∗ Q ⟨⟩)
        -∗ WP c (exchProg i A1 hA1 A2 hA2 A3 hA3 A4 hA4 A5 hA5 A6 hA6 c v2 h2) Q) := by
  unfold exchProg
  simp only [k0_part2_eq_skeleton, k0_part3_eq_skeleton, k0_part4_eq_skeleton, k0_part5_eq_skeleton, k0_part6_eq_skeleton,
    k0_part7_eq_skeleton, k0_part8_eq_skeleton, k0_part9_eq_skeleton]
  unfold k0_part2_skel k0_part3_skel k0_part4_skel k0_part5_skel k0_part6_skel k0_part7_skel k0_part8_skel k0_part9_skel
  simp only [semSignalWord, semWaitWord, Prog.lift, Prog.bind_op, Prog.bind_ret, Prog.pure_eq_ret]
  unfold start credits payToks
  rw [positions_eq, bigSep_three, bigSep_three]
  iintro ⟨⟨⟨%K, #HR, ⟨PB, ⟨P0, P00, P01, P02⟩, ⟨P1, P10, P11, P12⟩, ⟨P2, P20, P21, P22⟩, ⟨P3, P30, P31, P32⟩⟩,
    ⟨TB0, TS0, TR0, US0, UR0⟩, ⟨TB1, TS1, TR1, US1, UR1⟩, ⟨TB2, TS2, TR2, US2, UR2⟩⟩, ⟨CB, ⟨CA0, CM0⟩, ⟨CA1, CM1⟩, CA2, CM2⟩, #Hlev⟩,
    HO, Hm, Hl, Ha, HXA, HXM, Ho⟩ Hk
  ihave HXA := (splitA c) $$ HXA
  icases HXA with ⟨⟨%XA, HA⟩, HA0, HA1, HA2⟩
  ihave HXM := (splitM c) $$ HXM
  icases HXM with ⟨⟨%XM, HM⟩, HM0, HM1, HM2⟩
  -- entry: the three signals and the wait
  iapply (wp_bar_signal WA WM K c _ 0 (Fin.ext (dev1_eq c)) (O₀ c) _ rfl W) $$ [HO TB0 HA0 HM0]
  · isplitr; · iexact HR
    isplitl [HO]; · iexact HO
    isplitl [TB0]; · iexact TB0
    isplitl [HA0] <;> iassumption
  iintro HO
  iapply (wp_bar_signal WA WM K c _ 1 (Fin.ext (dev2_eq c)) _ _ rfl W) $$ [HO TB1 HA1 HM1]
  · isplitr; · iexact HR
    isplitl [HO]; · iexact HO
    isplitl [TB1]; · iexact TB1
    isplitl [HA1] <;> iassumption
  iintro HO
  iapply (wp_bar_signal WA WM K c _ 2 (Fin.ext (dev3_eq c)) _ (Os c) rfl W) $$ [HO TB2 HA2 HM2]
  · isplitr; · iexact HR
    isplitl [HO]; · iexact HO
    isplitl [TB2]; · iexact TB2
    isplitl [HA2] <;> iassumption
  iintro HO
  iapply (wp_bar_wait WA WM K c W) $$ [HO CB PB]
  · isplitr; · iexact HR
    isplitr; · iexact Hlev
    isplitl [HO]; · iexact HO
    isplitl [CB] <;> iassumption
  rw [bigSep_three]
  iintro ⟨HO, PB, ⟨DA0, DM0⟩, ⟨DA1, DM1⟩, DA2, DM2⟩
  -- the device's own slots
  iapply (wp_load_owns c hz2 a) $$ Ha; iintro Ha
  ihave HA := (Entails.of_eq (owns_offA c (k0_off1_eq c) (k0_off1_inb i c h2) fullShare XA).symm) $$ HA
  iapply (wp_load_slot c (m := accM) (r := Rect.unit (s := S4x64x128) (k0_off1 c) S1x64x128.size (k0_off1_inb i c h2)) (hr := fun _ => rfl) XA) $$ HA; iintro HA
  iapply (wp_store_slot c (m := accM) (r := Rect.unit (s := S4x64x128) (k0_off1 c) S1x64x128.size (k0_off1_inb i c h2)) (hr := fun _ => rfl) XA) $$ HA; iintro HA
  ihave HA := (Entails.of_eq (owns_offA c (k0_off1_eq c) (k0_off1_inb i c h2) fullShare (k0_pay11 a))) $$ HA
  iapply (wp_load_owns c hz2 m) $$ Hm; iintro Hm
  iapply (wp_load_owns c hz2 l) $$ Hl; iintro Hl
  ihave HM := (Entails.of_eq (owns_offM c (k0_off2_eq c) (k0_off2_inb i c h2) fullShare XM).symm) $$ HM
  iapply (wp_load_slot c (m := mlM) (r := Rect.unit (s := S4x64x2) (k0_off2 c) S1x64x2.size (k0_off2_inb i c h2)) (hr := fun _ => rfl) XM) $$ HM; iintro HM
  iapply (wp_store_slot c (m := mlM) (r := Rect.unit (s := S4x64x2) (k0_off2 c) S1x64x2.size (k0_off2_inb i c h2)) (hr := fun _ => rfl) XM) $$ HM; iintro HM
  ihave HM := (Entails.of_eq (owns_offM c (k0_off2_eq c) (k0_off2_inb i c h2) fullShare (k0_pay12 m l))) $$ HM
  rw [← hA, ← hM]
  ihave HA := (quarters c (slA c) (WA c)).1 $$ HA
  icases HA with ⟨QA, QA0, QA1, QA2⟩
  ihave HM := (quarters c (slM c) (WM c)).1 $$ HM
  icases HM with ⟨QM, QM0, QM1, QM2⟩
  -- the six copies
  unfold Os
  iapply (wp_sendA WA WM K c _ 0 (Fin.ext (dev4_eq c)) _ _ (slotA_eq (k0_off5_eq c) (k0_off5_inb i c h2)) (slotA_eq (k0_off5_eq c) (k0_off5_inb i c h2))
      _ _ (sems_off 0 (off3_eq 0 c) (k0_off3_inb i c h2 0)) (sems_off 1 (k0_off4_eq c) (k0_off4_inb i c h2)) _ _ rfl _) $$ [QA0 DA0 HO TS0 TR0]
  · isplitr; · iexact HR
    isplitl [QA0]; · iexact QA0
    isplitl [DA0]; · iexact DA0
    isplitl [HO]; · iexact HO
    isplitl [TS0] <;> iassumption
  iintro ⟨VA0, HO⟩
  iapply (wp_sendM WA WM K c _ 0 (Fin.ext (dev5_eq c)) _ _ (slotM_eq (k0_off6_eq c) (k0_off6_inb i c h2)) (slotM_eq (k0_off6_eq c) (k0_off6_inb i c h2))
      _ _ (sems_off 2 (off3_eq 0 c) (k0_off3_inb i c h2 0)) (sems_off 3 (k0_off4_eq c) (k0_off4_inb i c h2)) _ _ rfl _) $$ [QM0 DM0 HO US0 UR0]
  · isplitr; · iexact HR
    isplitl [QM0]; · iexact QM0
    isplitl [DM0]; · iexact DM0
    isplitl [HO]; · iexact HO
    isplitl [US0] <;> iassumption
  iintro ⟨VM0, HO⟩
  iapply (wp_sendA WA WM K c _ 1 (Fin.ext (dev6_eq c)) _ _ (slotA_eq (k0_off5_eq c) (k0_off5_inb i c h2)) (slotA_eq (k0_off5_eq c) (k0_off5_inb i c h2))
      _ _ (sems_off 0 (off3_eq 1 c) (k0_off3_inb i c h2 1)) (sems_off 1 (k0_off4_eq c) (k0_off4_inb i c h2)) _ _ rfl _) $$ [QA1 DA1 HO TS1 TR1]
  · isplitr; · iexact HR
    isplitl [QA1]; · iexact QA1
    isplitl [DA1]; · iexact DA1
    isplitl [HO]; · iexact HO
    isplitl [TS1] <;> iassumption
  iintro ⟨VA1, HO⟩
  iapply (wp_sendM WA WM K c _ 1 (Fin.ext (dev7_eq c)) _ _ (slotM_eq (k0_off6_eq c) (k0_off6_inb i c h2)) (slotM_eq (k0_off6_eq c) (k0_off6_inb i c h2))
      _ _ (sems_off 2 (off3_eq 1 c) (k0_off3_inb i c h2 1)) (sems_off 3 (k0_off4_eq c) (k0_off4_inb i c h2)) _ _ rfl _) $$ [QM1 DM1 HO US1 UR1]
  · isplitr; · iexact HR
    isplitl [QM1]; · iexact QM1
    isplitl [DM1]; · iexact DM1
    isplitl [HO]; · iexact HO
    isplitl [US1] <;> iassumption
  iintro ⟨VM1, HO⟩
  iapply (wp_sendA WA WM K c _ 2 (Fin.ext (dev8_eq c)) _ _ (slotA_eq (k0_off5_eq c) (k0_off5_inb i c h2)) (slotA_eq (k0_off5_eq c) (k0_off5_inb i c h2))
      _ _ (sems_off 0 (off3_eq 2 c) (k0_off3_inb i c h2 2)) (sems_off 1 (k0_off4_eq c) (k0_off4_inb i c h2)) _ _ rfl _) $$ [QA2 DA2 HO TS2 TR2]
  · isplitr; · iexact HR
    isplitl [QA2]; · iexact QA2
    isplitl [DA2]; · iexact DA2
    isplitl [HO]; · iexact HO
    isplitl [TS2] <;> iassumption
  iintro ⟨VA2, HO⟩
  iapply (wp_sendM WA WM K c _ 2 (Fin.ext (dev9_eq c)) _ _ (slotM_eq (k0_off6_eq c) (k0_off6_inb i c h2)) (slotM_eq (k0_off6_eq c) (k0_off6_inb i c h2))
      _ _ (sems_off 2 (off3_eq 2 c) (k0_off3_inb i c h2 2)) (sems_off 3 (k0_off4_eq c) (k0_off4_inb i c h2)) _ _ rfl _) $$ [QM2 DM2 HO US2 UR2]
  · isplitr; · iexact HR
    isplitl [QM2]; · iexact QM2
    isplitl [DM2]; · iexact DM2
    isplitl [HO]; · iexact HO
    isplitl [US2] <;> iassumption
  iintro ⟨VM2, HO⟩
  -- the arrivals
  iapply (wp_dma_wait WA WM K c 0 1 _ (sems_off 1 (off3_eq 0 c) (k0_off3_inb i c h2 0)) NA rfl (by rfl) _) $$ [HO CA0 P10]
  · isplitr; · iexact HR
    isplitl [HO]; · iexact HO
    isplitl [CA0] <;> iassumption
  iintro ⟨HO, P10, LA0⟩
  iapply (wp_dma_wait WA WM K c 0 3 _ (sems_off 3 (off3_eq 0 c) (k0_off3_inb i c h2 0)) NM rfl (by rfl) _) $$ [HO CM0 P30]
  · isplitr; · iexact HR
    isplitl [HO]; · iexact HO
    isplitl [CM0] <;> iassumption
  iintro ⟨HO, P30, LM0⟩
  iapply (wp_dma_wait WA WM K c 1 1 _ (sems_off 1 (off3_eq 1 c) (k0_off3_inb i c h2 1)) NA rfl (by rfl) _) $$ [HO CA1 P11]
  · isplitr; · iexact HR
    isplitl [HO]; · iexact HO
    isplitl [CA1] <;> iassumption
  iintro ⟨HO, P11, LA1⟩
  iapply (wp_dma_wait WA WM K c 1 3 _ (sems_off 3 (off3_eq 1 c) (k0_off3_inb i c h2 1)) NM rfl (by rfl) _) $$ [HO CM1 P31]
  · isplitr; · iexact HR
    isplitl [HO]; · iexact HO
    isplitl [CM1] <;> iassumption
  iintro ⟨HO, P31, LM1⟩
  iapply (wp_dma_wait WA WM K c 2 1 _ (sems_off 1 (off3_eq 2 c) (k0_off3_inb i c h2 2)) NA rfl (by rfl) _) $$ [HO CA2 P12]
  · isplitr; · iexact HR
    isplitl [HO]; · iexact HO
    isplitl [CA2] <;> iassumption
  iintro ⟨HO, P12, LA2⟩
  iapply (wp_dma_wait WA WM K c 2 3 _ (sems_off 3 (off3_eq 2 c) (k0_off3_inb i c h2 2)) NM rfl (by rfl) _) $$ [HO CM2 P32]
  · isplitr; · iexact HR
    isplitl [HO]; · iexact HO
    isplitl [CM2] <;> iassumption
  iintro ⟨HO, P32, LM2⟩
  -- the departures
  iapply (wp_dma_wait WA WM K c 0 0 _ (sems_off 0 (off3_eq 0 c) (k0_off3_inb i c h2 0)) NA rfl (by rfl) _) $$ [HO VA0 P00]
  · isplitr; · iexact HR
    isplitl [HO]; · iexact HO
    isplitl [VA0] <;> iassumption
  iintro ⟨HO, P00, QA0⟩
  iapply (wp_dma_wait WA WM K c 0 2 _ (sems_off 2 (off3_eq 0 c) (k0_off3_inb i c h2 0)) NM rfl (by rfl) _) $$ [HO VM0 P20]
  · isplitr; · iexact HR
    isplitl [HO]; · iexact HO
    isplitl [VM0] <;> iassumption
  iintro ⟨HO, P20, QM0⟩
  iapply (wp_dma_wait WA WM K c 1 0 _ (sems_off 0 (off3_eq 1 c) (k0_off3_inb i c h2 1)) NA rfl (by rfl) _) $$ [HO VA1 P01]
  · isplitr; · iexact HR
    isplitl [HO]; · iexact HO
    isplitl [VA1] <;> iassumption
  iintro ⟨HO, P01, QA1⟩
  iapply (wp_dma_wait WA WM K c 1 2 _ (sems_off 2 (off3_eq 1 c) (k0_off3_inb i c h2 1)) NM rfl (by rfl) _) $$ [HO VM1 P21]
  · isplitr; · iexact HR
    isplitl [HO]; · iexact HO
    isplitl [VM1] <;> iassumption
  iintro ⟨HO, P21, QM1⟩
  iapply (wp_dma_wait WA WM K c 2 0 _ (sems_off 0 (off3_eq 2 c) (k0_off3_inb i c h2 2)) NA rfl (by rfl) _) $$ [HO VA2 P02]
  · isplitr; · iexact HR
    isplitl [HO]; · iexact HO
    isplitl [VA2] <;> iassumption
  iintro ⟨HO, P02, QA2⟩
  iapply (wp_dma_wait WA WM K c 2 2 _ (sems_off 2 (off3_eq 2 c) (k0_off3_inb i c h2 2)) NM rfl (by rfl) _) $$ [HO VM2 P22]
  · isplitr; · iexact HR
    isplitl [HO]; · iexact HO
    isplitl [VM2] <;> iassumption
  iintro ⟨HO, P22, QM2⟩
  -- the tables whole again
  unfold dmaPay
  ihave HA := (quarters c (slA c) (WA c)).2 $$ [QA QA0 QA1 QA2]
  · isplitl [QA]; · iexact QA
    isplitl [QA0]; · iexact QA0
    isplitl [QA1] <;> iassumption
  ihave HM := (quarters c (slM c) (WM c)).2 $$ [QM QM0 QM1 QM2]
  · isplitl [QM]; · iexact QM
    isplitl [QM0]; · iexact QM0
    isplitl [QM1] <;> iassumption
  ihave HA := (joinA WA c) $$ [HA LA0 LA1 LA2]
  · isplitl [HA]; · iexact HA
    isplitl [LA0]; · iexact LA0
    isplitl [LA1] <;> iassumption
  ihave HM := (joinM WM c) $$ [HM LM0 LM1 LM2]
  · isplitl [HM]; · iexact HM
    isplitl [LM0]; · iexact LM0
    isplitl [LM1] <;> iassumption
  iapply (wp_load_owns c hz3 (commM WM)) $$ HM; iintro HM
  iapply (wp_load_owns c hz3 (commA WA)) $$ HA; iintro HA
  iapply (wp_load_owns c hz4 o) $$ Ho; iintro Ho
  iapply (wp_store_owns c hz4 o) $$ Ho; iintro Ho
  -- every cell closed
  imod (close_kind WA WM K c 0) $$ [P0 P00 P01 P02] with Z0
  · isplitr; · iexact HR
    isplitl [P0]; · iexact P0
    isplitl [P00]; · iexact P00
    isplitl [P01] <;> iassumption
  imod (close_kind WA WM K c 1) $$ [P1 P10 P11 P12] with Z1
  · isplitr; · iexact HR
    isplitl [P1]; · iexact P1
    isplitl [P10]; · iexact P10
    isplitl [P11] <;> iassumption
  imod (close_kind WA WM K c 2) $$ [P2 P20 P21 P22] with Z2
  · isplitr; · iexact HR
    isplitl [P2]; · iexact P2
    isplitl [P20]; · iexact P20
    isplitl [P21] <;> iassumption
  imod (close_kind WA WM K c 3) $$ [P3 P30 P31 P32] with Z3
  · isplitr; · iexact HR
    isplitl [P3]; · iexact P3
    isplitl [P30]; · iexact P30
    isplitl [P31] <;> iassumption
  imod (Rounds.cell_close ER (Rd WA WM) (Set.mem_univ (K (c, .inl ()))) (fun h => h) (R := 1) (duties_later WA WM (barCell c))) $$ [PB] with ZB
  · isplitr; · iapply (records_inv WA WM K (c, .inl ())); iexact HR
    iexact PB
  rw [wp_ret]; imodintro
  iapply Hk
  isplitl [HO]; · iexists _; iexact HO
  isplitl [Hm]; · iexact Hm
  isplitl [Hl]; · iexact Hl
  isplitl [Ha]; · iexact Ha
  isplitl [HA]; · iexists _; iexact HA
  isplitl [HM]; · iexists _; iexact HM
  isplitl [Ho]; · unfold merged; iexact Ho
  rw [closed_eq]
  isplitl [ZB]; · iexact ZB
  isplitl [Z0]; · iexact Z0
  isplitl [Z1]; · iexact Z1
  isplitl [Z2] <;> iassumption

end Cert.KernelIdeal.Exchange

end
-- ==== Proof.Body.lean ====
/-
# One grid point

The running triple (row maximum, sum, weighted sum) point by point, the proof data of the region, and its body
obligation: at every point one block is taken in, and at the last one the exchange follows.
-/
module

public import Mathlib.Tactic.IntervalCases
public import proofs.«01_k».proof.Proof.Exchange
public import proofs.«01_k».proof.Proof.Gen.KernelIdeal.Frame

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The running triple -/

/-- A row's maximum, sum and weighted sum so far, for the 64 rows. -/
structure Triple (F : FTy → Type) where
  m : Vec F S64x1 .f32
  l : Vec F S64x1 .f32
  a : Vec F S64x128 .f32

/-- Before the first block, -/
def init : Triple F := ⟨k0_pay4, k0_pay5, k0_pay6⟩

/-- the penalty table, which rules out the pairs of a row and a column of different heads, -/
def pen : Vec F S64x8192 .f32 :=
  k0_pay15 (F := F) k0_pay7 (Scalar.select (Scalar.cmpi .eq 8#32 0#32) 1#32 8#32) k0_pay8 k0_pay9 k0_pay10

/-- and one block taken in: its log-counts, its queries, keys and values. -/
def step (lc : FVec F S8x1x8192 .f32) (q : Vec F S8x1x8x128 .bf16) (k v : Vec F S64x16x8x128 .bf16) (s : Triple F) : Triple F :=
  ⟨k0_pay2 (k0_pay18 lc q k pen s.m), k0_pay21 lc q k pen s.m s.l,
    k0_pay1 (k0_pay19 lc q k pen s.m) (k0_pay22 v) (k0_pay23 lc q k pen s.m) s.a⟩

variable (i : grid0.Coords)
  (A1 : Memref sig .tc .vmem S8x1x8x128 .bf16) (hA1 : A1.IsWhole) (A2 : Memref sig .tc .vmem S64x16x8x128 .bf16) (hA2 : A2.IsWhole)
  (A3 : Memref sig .tc .vmem S64x16x8x128 .bf16) (hA3 : A3.IsWhole) (A4 : Memref sig .tc .vmem S8x512 .i32) (hA4 : A4.IsWhole)
  (A5 : Memref sig .tc .vmem S8 .i32) (hA5 : A5.IsWhole) (A6 : Memref sig .tc .vmem S8x1x8x128 .f32) (hA6 : A6.IsWhole)

/-- The point's last stores, before `E`. -/
def tailProg (v61 v63 : FVec F S64x1 .f32) (v77 : FVec F S8192x128 .bf16) (v78 : FVec F S64x8192 .bf16)
    (E : Prog (TpuEff nD τ sig (Elt F) Λ₀ .tc) PUnit) : Prog (TpuEff nD τ sig (Elt F) Λ₀ .tc) PUnit := do
  let v80 : Vec F S64x128 .f32 ← Prog.lift (.load aM (Rect.unit (s := S64x128) ![0, 0] S64x128.size inb_S64x128_S64x128_0_0).toLoadRect (View.loadsAt_vmem h_S64x128))
  let v84 : Vec F S64x128 .f32 ← Prog.lift (.load aM (Rect.unit (s := S64x128) ![0, 0] S64x128.size inb_S64x128_S64x128_0_0).toLoadRect (View.loadsAt_vmem h_S64x128))
  Prog.lift (.store aM (Rect.unit (s := S64x128) ![0, 0] S64x128.size inb_S64x128_S64x128_0_0) (k0_pay1 v63 v77 v78 v80) Finset.univ (View.stores_vmem_bits_univ h_S64x128 rfl) (.inl rfl))
  let v87 : Vec F S64x1 .f32 ← Prog.lift (.load mM (Rect.unit (s := S64x1) ![0, 0] S64x1.size inb_S64x1_S64x1_0_0).toLoadRect (View.loadsAt_vmem h_S64x1))
  Prog.lift (.store mM (Rect.unit (s := S64x1) ![0, 0] S64x1.size inb_S64x1_S64x1_0_0) (k0_pay2 v61) Finset.univ (View.stores_vmem_bits_univ h_S64x1 rfl) (.inl rfl))
  E

set_option maxRecDepth 65536 in
/-- The body: the point's reads, its block, and the exchange at the last point. -/
theorem body_eq :
    cc0_body (F := F) i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9
      = (k0_part10 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 >>= fun x =>
          k0_part11 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 x.2.2.2 >>= fun y =>
            tailProg y.1 y.2.1 y.2.2.1 y.2.2.2
              (if h2 : k0_cond2 i = 1#1 then exchProg i A1 hA1 A2 hA2 A3 hA3 A4 hA4 A5 hA5 A6 hA6 x.2.1 x.2.2.1 h2 else pure ⟨⟩)) := by
  rw [cc0_body_eq_skeleton]
  unfold cc0_body_skel
  refine congrArg (fun f => k0_part10 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 >>= f) (funext fun ⟨arg0, d0, v2, v43⟩ => ?_)
  refine congrArg (fun f => k0_part11 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 v43 >>= f) (funext fun ⟨v61, v63, v77, v78⟩ => ?_)
  unfold tailProg exchProg
  rfl

/-- A program followed by a continuation is run by running the program and then the continuation. -/
theorem WP_bind (c : Dev nD) {α β : Type} (p : Prog (TpuEff nD τ sig (Elt F) Λ₀ .tc) α) (k : α → Prog (TpuEff nD τ sig (Elt F) Λ₀ .tc) β) (Q : β → sProp 𝕄) :
    WP c (p >>= k) Q = WP c p fun a => WP c (k a) Q := wp_bind _ _ _ p k Q

/-- A program that returns at once meets what is asked of its value. -/
theorem WP_ret (c : Dev nD) {α : Type} (a : α) (Q : α → sProp 𝕄) :
    WP c (Prog.ret a) Q = iprop(|={Set.univ}=> Q a) := wp_ret _ _ _ a Q

/-- The point's reads at a point that is not the first: -/
theorem wp_reads (c : Dev nD) (h1 : (i 0).val ≠ 0) (bt : Vec F S8x512 .i32) (ln : Vec F S8 .i32) {Q : (Σ' (arg0 : BitVec 32) (d0 : Dev nD) (v2 : BitVec 32), FVec F S8x1x8192 .f32) → sProp 𝕄} :
    iprop(owns (c : Thread nD τ) A4 fullShare bt ∗ owns (c : Thread nD τ) A5 fullShare ln)
      ⊢ iprop((owns (c : Thread nD τ) A4 fullShare bt ∗ owns (c : Thread nD τ) A5 fullShare ln
          -∗ Q ⟨BitVec.ofNat 32 (i 0).val, c, Scalar.remsi (Scalar.divsi (Dev.word c) 1#32) 4#32, k0_pay16 i c bt ln⟩)
        -∗ WP c (k0_part10 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9) Q) := by
  have hc : ¬ (Scalar.cmpi .ne (Scalar.extui (Scalar.cmpi .eq (BitVec.ofNat 32 (i 0).val) 0#32) : BitVec 32) 0#32 = 1#1) := by
    have hlt : (i 0).val < 8 := (i 0).isLt
    generalize (i 0).val = n at h1 hlt
    interval_cases n <;> first | exact absurd rfl h1 | decide
  rw [k0_part10_eq_skeleton]; unfold k0_part10_skel
  simp only [dif_neg hc, Prog.lift, Prog.bind_op, Prog.bind_ret, Prog.pure_eq_ret, wp_deviceId]
  iintro ⟨Hb, Hl⟩ Hk
  iapply (wp_load_owns c hz2 bt) $$ Hb; iintro Hb
  iapply (wp_load_owns c hz1 ln) $$ Hl; iintro Hl
  rw [WP_ret]; imodintro
  iapply Hk
  isplitl [Hb] <;> iassumption

/-- at the first point the triple and the penalty table are set before them. -/
theorem wp_reads_first (c : Dev nD) (h1 : (i 0).val = 0) (bt : Vec F S8x512 .i32) (ln : Vec F S8 .i32) {Q : (Σ' (arg0 : BitVec 32) (d0 : Dev nD) (v2 : BitVec 32), FVec F S8x1x8192 .f32) → sProp 𝕄} :
    iprop(owns (c : Thread nD τ) A4 fullShare bt ∗ owns (c : Thread nD τ) A5 fullShare ln
        ∗ (∃ X, owns (c : Thread nD τ) pM fullShare X) ∗ (∃ X, owns (c : Thread nD τ) mM fullShare X)
        ∗ (∃ X, owns (c : Thread nD τ) lM fullShare X) ∗ (∃ X, owns (c : Thread nD τ) aM fullShare X))
      ⊢ iprop((owns (c : Thread nD τ) A4 fullShare bt ∗ owns (c : Thread nD τ) A5 fullShare ln
          ∗ owns (c : Thread nD τ) pM fullShare (pen (F := F)) ∗ owns (c : Thread nD τ) mM fullShare (init (F := F)).m
          ∗ owns (c : Thread nD τ) lM fullShare (init (F := F)).l ∗ owns (c : Thread nD τ) aM fullShare (init (F := F)).a
          -∗ Q ⟨BitVec.ofNat 32 (i 0).val, c, Scalar.remsi (Scalar.divsi (Dev.word c) 1#32) 4#32, k0_pay16 i c bt ln⟩)
        -∗ WP c (k0_part10 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9) Q) := by
  have hc : Scalar.cmpi .ne (Scalar.extui (Scalar.cmpi .eq (BitVec.ofNat 32 (i 0).val) 0#32) : BitVec 32) 0#32 = 1#1 := by
    rw [h1]; decide
  rw [k0_part10_eq_skeleton]; unfold k0_part10_skel
  simp only [dif_pos hc, k0_part1_eq_skeleton]
  unfold k0_part1_skel
  simp only [Prog.lift, Prog.bind_op, Prog.bind_ret, Prog.pure_eq_ret, wp_deviceId]
  iintro ⟨Hb, Hl, ⟨%xp, Hp⟩, ⟨%xm, Hm⟩, ⟨%xl, Hs⟩, ⟨%xa, Ha⟩⟩ Hk
  iapply (wp_load_owns c hz2 xm) $$ Hm; iintro Hm
  iapply (wp_store_owns c hz2 xm) $$ Hm; iintro Hm
  iapply (wp_load_owns c hz2 xl) $$ Hs; iintro Hs
  iapply (wp_store_owns c hz2 xl) $$ Hs; iintro Hs
  iapply (wp_load_owns c hz2 xa) $$ Ha; iintro Ha
  iapply (wp_store_owns c hz2 xa) $$ Ha; iintro Ha
  iapply (wp_load_owns c hz2 xp) $$ Hp; iintro Hp
  iapply (wp_store_owns c hz2 xp) $$ Hp; iintro Hp
  iapply (wp_load_owns c hz2 bt) $$ Hb; iintro Hb
  iapply (wp_load_owns c hz1 ln) $$ Hl; iintro Hl
  rw [WP_ret]; imodintro
  iapply Hk
  isplitl [Hb]; · iexact Hb
  isplitl [Hl]; · iexact Hl
  isplitl [Hp]; · unfold pen; iexact Hp
  isplitl [Hm]; · unfold init; iexact Hm
  isplitl [Hs]; · unfold init; iexact Hs
  unfold init; iexact Ha

/-- The block, up to its last stores: -/
theorem wp_block (c : Dev nD) (lc : FVec F S8x1x8192 .f32) (q : Vec F S8x1x8x128 .bf16) (k v : Vec F S64x16x8x128 .bf16) (s : Triple F)
    {Q : (Σ' (v61 : FVec F S64x1 .f32) (v63 : FVec F S64x1 .f32) (v77 : FVec F S8192x128 .bf16), FVec F S64x8192 .bf16) → sProp 𝕄} :
    iprop(owns (c : Thread nD τ) A1 fullShare q ∗ owns (c : Thread nD τ) A2 fullShare k ∗ owns (c : Thread nD τ) A3 fullShare v
        ∗ owns (c : Thread nD τ) pM fullShare (pen (F := F)) ∗ owns (c : Thread nD τ) mM fullShare s.m ∗ owns (c : Thread nD τ) lM fullShare s.l)
      ⊢ iprop((owns (c : Thread nD τ) A1 fullShare q ∗ owns (c : Thread nD τ) A2 fullShare k ∗ owns (c : Thread nD τ) A3 fullShare v
          ∗ owns (c : Thread nD τ) pM fullShare (pen (F := F)) ∗ owns (c : Thread nD τ) mM fullShare s.m
          ∗ owns (c : Thread nD τ) lM fullShare (step lc q k v s).l
          -∗ Q ⟨k0_pay18 lc q k pen s.m, k0_pay19 lc q k pen s.m, k0_pay22 v, k0_pay23 lc q k pen s.m⟩)
        -∗ WP c (k0_part11 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 lc) Q) := by
  rw [k0_part11_eq_skeleton]; unfold k0_part11_skel
  simp only [Prog.lift, Prog.bind_op, Prog.bind_ret, Prog.pure_eq_ret]
  iintro ⟨Hq, Hkk, Hv, Hp, Hm, Hl⟩ Hk
  iapply (wp_load_owns c hz4 q) $$ Hq; iintro Hq
  iapply (wp_load_owns c hz4 k) $$ Hkk; iintro Hkk
  iapply (wp_load_owns c hz2 (pen (F := F))) $$ Hp; iintro Hp
  iapply (wp_load_owns c hz2 s.m) $$ Hm; iintro Hm
  iapply (wp_load_owns c hz2 s.l) $$ Hl; iintro Hl
  iapply (wp_load_owns c hz2 s.l) $$ Hl; iintro Hl
  iapply (wp_store_owns c hz2 s.l) $$ Hl; iintro Hl
  iapply (wp_load_owns c hz4 v) $$ Hv; iintro Hv
  rw [WP_ret]; imodintro
  iapply Hk
  isplitl [Hq]; · iexact Hq
  isplitl [Hkk]; · iexact Hkk
  isplitl [Hv]; · iexact Hv
  isplitl [Hp]; · iexact Hp
  isplitl [Hm]; · iexact Hm
  unfold step; iexact Hl

/-- and those. -/
theorem wp_tail (c : Dev nD) (v61 v63 : FVec F S64x1 .f32) (v77 : FVec F S8192x128 .bf16) (v78 : FVec F S64x8192 .bf16)
    (E : Prog (TpuEff nD τ sig (Elt F) Λ₀ .tc) PUnit) (s : Triple F) {Q : PUnit → sProp 𝕄} :
    iprop(owns (c : Thread nD τ) mM fullShare s.m ∗ owns (c : Thread nD τ) aM fullShare s.a)
      ⊢ iprop((owns (c : Thread nD τ) mM fullShare (k0_pay2 v61) ∗ owns (c : Thread nD τ) aM fullShare (k0_pay1 v63 v77 v78 s.a) -∗ WP c E Q)
        -∗ WP c (tailProg v61 v63 v77 v78 E) Q) := by
  unfold tailProg
  simp only [Prog.lift, Prog.bind_op, Prog.bind_ret, Prog.pure_eq_ret]
  iintro ⟨Hm, Ha⟩ Hk
  iapply (wp_load_owns c hz2 s.a) $$ Ha; iintro Ha
  iapply (wp_load_owns c hz2 s.a) $$ Ha; iintro Ha
  iapply (wp_store_owns c hz2 s.a) $$ Ha; iintro Ha
  iapply (wp_load_owns c hz2 s.m) $$ Hm; iintro Hm
  iapply (wp_store_owns c hz2 s.m) $$ Hm; iintro Hm
  iapply Hk
  isplitl [Hm] <;> iassumption

/-- A block and its stores, whatever follows. -/
theorem wp_rest (c : Dev nD) (lc : FVec F S8x1x8192 .f32) (q : Vec F S8x1x8x128 .bf16) (k v : Vec F S64x16x8x128 .bf16) (s : Triple F)
    (E : Prog (TpuEff nD τ sig (Elt F) Λ₀ .tc) PUnit) {Q : PUnit → sProp 𝕄} :
    iprop(owns (c : Thread nD τ) A1 fullShare q ∗ owns (c : Thread nD τ) A2 fullShare k ∗ owns (c : Thread nD τ) A3 fullShare v
        ∗ owns (c : Thread nD τ) pM fullShare (pen (F := F)) ∗ owns (c : Thread nD τ) mM fullShare s.m ∗ owns (c : Thread nD τ) lM fullShare s.l
        ∗ owns (c : Thread nD τ) aM fullShare s.a)
      ⊢ iprop((owns (c : Thread nD τ) A1 fullShare q ∗ owns (c : Thread nD τ) A2 fullShare k ∗ owns (c : Thread nD τ) A3 fullShare v
          ∗ owns (c : Thread nD τ) pM fullShare (pen (F := F)) ∗ owns (c : Thread nD τ) mM fullShare (step lc q k v s).m
          ∗ owns (c : Thread nD τ) lM fullShare (step lc q k v s).l ∗ owns (c : Thread nD τ) aM fullShare (step lc q k v s).a -∗ WP c E Q)
        -∗ WP c (k0_part11 i A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9 lc >>= fun y => tailProg y.1 y.2.1 y.2.2.1 y.2.2.2 E) Q) := by
  rw [WP_bind]
  iintro ⟨Hq, Hkk, Hv, Hp, Hm, Hl, Ha⟩ Hk
  iapply (wp_block i A1 hA1 A2 hA2 A3 hA3 A4 hA4 A5 hA5 A6 hA6 c lc q k v s) $$ [Hq Hkk Hv Hp Hm Hl]
  · isplitl [Hq]; · iexact Hq
    isplitl [Hkk]; · iexact Hkk
    isplitl [Hv]; · iexact Hv
    isplitl [Hp]; · iexact Hp
    isplitl [Hm] <;> iassumption
  iintro ⟨Hq, Hkk, Hv, Hp, Hm, Hl⟩
  iapply (wp_tail c _ _ _ _ E s) $$ [Hm Ha]
  · isplitl [Hm] <;> iassumption
  iintro ⟨Hm, Ha⟩
  iapply Hk
  isplitl [Hq]; · iexact Hq
  isplitl [Hkk]; · iexact Hkk
  isplitl [Hv]; · iexact Hv
  isplitl [Hp]; · iexact Hp
  isplitl [Hm]; · unfold step; iexact Hm
  isplitl [Hl]; · iexact Hl
  unfold step; iexact Ha

/-! ## The region's proof data -/

section Data

variable (m : (l : Loc nD τ sig) → Buf (Elt F) l)

/-- Point `t`'s block of device `c` taken in. -/
def upd (c : Dev nD) (t : Fin cfg0.N) (s : Triple F) : Triple F :=
  step (k0_pay16 (grid0.coords t) c (iblk m c 3 t) (iblk m c 4 t)) (iblk m c 0 t) (iblk m c 1 t) (iblk m c 2 t) s

/-- Device `c`'s triple before point `n`. -/
def stAt (c : Dev nD) : ℕ → Triple F
  | 0 => init
  | n + 1 => if h : n < cfg0.N then upd m c ⟨n, h⟩ (stAt c n) else stAt c n

/-- The state after a step is that step's update of the state before it. -/
theorem stAt_succ (c : Dev nD) (t : Fin cfg0.N) : stAt m c (t.val + 1) = upd m c t (stAt m c t.val) := by
  rw [stAt, dif_pos t.isLt]

/-- Device `c`'s two tables after its last block. -/
def wA (c : Dev nD) : Vec F S1x64x128 .f32 := k0_pay11 (stAt m c 8).a
/-- What a device sends of its maxima and sums: the two columns side by side. -/
def wM (c : Dev nD) : Vec F S1x64x2 .f32 := k0_pay12 (stAt m c 8).m (stAt m c 8).l

/-- Every device's result. -/
def result : Vec F S8x1x8x128 .f32 := merged (wA m) (wM m)

/-- The scratch buffers at any contents. -/
def anyScratch (c : Dev nD) : sProp 𝕄 :=
  iprop((∃ X, owns (c : Thread nD τ) pM fullShare X) ∗ (∃ X, owns (c : Thread nD τ) mM fullShare X) ∗ (∃ X, owns (c : Thread nD τ) lM fullShare X)
    ∗ (∃ X, owns (c : Thread nD τ) aM fullShare X) ∗ (∃ X, owns (c : Thread nD τ) accM fullShare X) ∗ (∃ X, owns (c : Thread nD τ) mlM fullShare X))

/-- The scratch buffers holding the triple. -/
def atScratch (c : Dev nD) (s : Triple F) : sProp 𝕄 :=
  iprop(owns (c : Thread nD τ) pM fullShare (pen (F := F)) ∗ owns (c : Thread nD τ) mM fullShare s.m ∗ owns (c : Thread nD τ) lM fullShare s.l
    ∗ owns (c : Thread nD τ) aM fullShare s.a ∗ (∃ X, owns (c : Thread nD τ) accM fullShare X) ∗ (∃ X, owns (c : Thread nD τ) mlM fullShare X))

/-- The body's invariant before point `n`. -/
def inv (c : Dev nD) (n : ℕ) : sProp 𝕄 :=
  if n = 0 then iprop(start (wA m) (wM m) c ∗ anyScratch c)
  else if n < 8 then iprop(start (wA m) (wM m) c ∗ atScratch c (stAt m c n))
  else iprop(anyScratch c ∗ closed c)

/-- What each window holds before and after each step, and what the body keeps between steps. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result m
  Φ t := inv m c t.val
  q _ := fullShare
  owed t := if t.val < 8 then O₀ c else 0

/-- The queries' window is left as it was. -/
theorem after_0 (c : Dev nD) (t : Fin cfg0.N) : (dats m 0 c).after 0 t = iblk m c 0 t := rfl

/-- The queries' window holds its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rfl) t d).trans
    (by unfold Dat.fetched Dat.blockOf iblk; rfl)

/-- The keys' window is left as it was. -/
theorem after_1 (c : Dev nD) (t : Fin cfg0.N) : (dats m 0 c).after 1 t = iblk m c 1 t := rfl

/-- The keys' window holds its block. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rfl) t d).trans
    (by unfold Dat.fetched Dat.blockOf iblk; rfl)

/-- The values' window is left as it was. -/
theorem after_2 (c : Dev nD) (t : Fin cfg0.N) : (dats m 0 c).after 2 t = iblk m c 2 t := rfl

/-- The values' window holds its block. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rfl) t d).trans
    (by unfold Dat.fetched Dat.blockOf iblk; rfl)

/-- The page table's window is left as it was. -/
theorem after_3 (c : Dev nD) (t : Fin cfg0.N) : (dats m 0 c).after 3 t = iblk m c 3 t := rfl

/-- The page table's window holds its block. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rfl) t d).trans
    (by unfold Dat.fetched Dat.blockOf iblk; rfl)

/-- The lengths' window is left as it was. -/
theorem after_4 (c : Dev nD) (t : Fin cfg0.N) : (dats m 0 c).after 4 t = iblk m c 4 t := rfl

/-- The lengths' window holds its block. -/
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rfl) t d).trans
    (by unfold Dat.fetched Dat.blockOf iblk; rfl)

/-- The grid's one coordinate is the step's number. -/
theorem first_iff : ∀ t : Fin cfg0.N, ((grid0.coords t) 0).val = t.val := by decide

/-- The branch of the exchange is taken at the last step, and only there. -/
theorem last_iff : ∀ t : Fin cfg0.N, k0_cond2 (grid0.coords t) = 1#1 ↔ t.val = 7 := by decide

/-- Before the first step the scratch is unread and the exchange has not begun. -/
theorem inv_zero (c : Dev nD) : inv m c 0 = iprop(start (wA m) (wM m) c ∗ anyScratch c) := rfl

/-- Between the steps the scratch holds the running state and the exchange has not begun. -/
theorem inv_mid (c : Dev nD) {n : ℕ} (h0 : n ≠ 0) (h : n < 8) : inv m c n = iprop(start (wA m) (wM m) c ∗ atScratch c (stAt m c n)) := by
  unfold inv; rw [if_neg h0, if_pos h]

/-- After the last step the scratch is free again and the exchange is closed. -/
theorem inv_last (c : Dev nD) : inv m c 8 = iprop(anyScratch c ∗ closed c) := rfl

/-- The blocks a point works on, in its staging memrefs. -/
def blocks (c : Dev nD) (t : Fin cfg0.N) : sProp 𝕄 :=
  iprop(owns (c : Thread nD τ) A1 fullShare (iblk m c 0 t) ∗ owns (c : Thread nD τ) A2 fullShare (iblk m c 1 t) ∗ owns (c : Thread nD τ) A3 fullShare (iblk m c 2 t)
    ∗ owns (c : Thread nD τ) A4 fullShare (iblk m c 3 t) ∗ owns (c : Thread nD τ) A5 fullShare (iblk m c 4 t))

set_option maxHeartbeats 1600000 in
/-- What a point's reads leave: its log-counts, and the triple in the scratch. -/
theorem wp_begin (c : Dev nD) (t : Fin cfg0.N) {Q : (Σ' (arg0 : BitVec 32) (d0 : Dev nD) (v2 : BitVec 32), FVec F S8x1x8192 .f32) → sProp 𝕄} :
    iprop(inv m c t.val ∗ owns (c : Thread nD τ) A4 fullShare (iblk m c 3 t) ∗ owns (c : Thread nD τ) A5 fullShare (iblk m c 4 t))
      ⊢ iprop((start (wA m) (wM m) c ∗ atScratch c (stAt m c t.val) ∗ owns (c : Thread nD τ) A4 fullShare (iblk m c 3 t) ∗ owns (c : Thread nD τ) A5 fullShare (iblk m c 4 t)
          -∗ Q ⟨BitVec.ofNat 32 ((grid0.coords t) 0).val, c, Scalar.remsi (Scalar.divsi (Dev.word c) 1#32) 4#32, k0_pay16 (grid0.coords t) c (iblk m c 3 t) (iblk m c 4 t)⟩)
        -∗ WP c (k0_part10 (grid0.coords t) A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9) Q) := by
  by_cases h0 : t.val = 0
  · rw [h0, inv_zero]
    unfold anyScratch atScratch
    iintro ⟨⟨Hs, Hp, Hm, Hl, Ha, HA, HM⟩, Hb, Hn⟩ Hk
    iapply (wp_reads_first (grid0.coords t) A1 hA1 A2 hA2 A3 hA3 A4 hA4 A5 hA5 A6 hA6 c ((first_iff t).trans h0) (iblk m c 3 t) (iblk m c 4 t)) $$ [Hp Hm Hl Ha Hb Hn]
    · isplitl [Hb]; · iexact Hb
      isplitl [Hn]; · iexact Hn
      isplitl [Hp]; · iexact Hp
      isplitl [Hm]; · iexact Hm
      isplitl [Hl] <;> iassumption
    iintro ⟨Hb, Hn, Hp, Hm, Hl, Ha⟩
    iapply Hk
    isplitl [Hs]; · iexact Hs
    isplitl [Hp Hm Hl Ha HA HM]
    · isplitl [Hp]; · iexact Hp
      isplitl [Hm]; · iexact Hm
      isplitl [Hl]; · iexact Hl
      isplitl [Ha]; · iexact Ha
      isplitl [HA] <;> iassumption
    isplitl [Hb] <;> iassumption
  · rw [inv_mid m c h0 t.isLt]
    iintro ⟨⟨Hs, Hsc⟩, Hb, Hn⟩ Hk
    iapply (wp_reads (grid0.coords t) A1 hA1 A2 hA2 A3 hA3 A4 hA4 A5 hA5 A6 hA6 c (fun h => h0 ((first_iff t).symm.trans h)) (iblk m c 3 t) (iblk m c 4 t)) $$ [Hb Hn]
    · isplitl [Hb] <;> iassumption
    iintro ⟨Hb, Hn⟩
    iapply Hk
    isplitl [Hs]; · iexact Hs
    isplitl [Hsc]; · iexact Hsc
    isplitl [Hb] <;> iassumption

set_option maxHeartbeats 1600000 in
/-- One point of device `c`. -/
theorem wp_point (c : Dev nD) (t : Fin cfg0.N) (W : Waits sig Unit) (o : Vec F S8x1x8x128 .f32) {Q : PUnit → sProp 𝕄} :
    iprop(inv m c t.val ∗ owes (c : Thread nD τ) (O₀ c) W ∗ blocks A1 A2 A3 A4 A5 m c t ∗ owns (c : Thread nD τ) A6 fullShare o)
      ⊢ iprop((inv m c (t.val + 1) ∗ (∃ W', owes (c : Thread nD τ) (if t.val + 1 < 8 then O₀ c else 0) W')
          ∗ blocks A1 A2 A3 A4 A5 m c t ∗ owns (c : Thread nD τ) A6 fullShare (if t.val = 7 then result m else o) -∗ Q ⟨⟩)
        -∗ WP c (cc0_body (grid0.coords t) A1 hA1 A2 hA2 A3 hA3 A4 hA4 A5 hA5 A6 hA6 (Memref.whole cc0_scratch0) (Memref.isWhole_whole _) (Memref.whole cc0_scratch1) (Memref.isWhole_whole _) (Memref.whole cc0_scratch2) (Memref.isWhole_whole _) (Memref.whole cc0_scratch3) (Memref.isWhole_whole _) accM (Memref.isWhole_whole _) mlM (Memref.isWhole_whole _) cc0_scratch6 cc0_scratch7 cc0_scratch8 cc0_scratch9) Q) := by
  rw [body_eq, WP_bind]
  unfold blocks
  iintro ⟨Hi, HO, ⟨Hq, Hkk, Hv, Hb, Hn⟩, Ho⟩ Hk
  iapply (wp_begin A1 hA1 A2 hA2 A3 hA3 A4 hA4 A5 hA5 A6 hA6 m c t) $$ [Hi Hb Hn]
  · isplitl [Hi]; · iexact Hi
    isplitl [Hb] <;> iassumption
  unfold atScratch
  iintro ⟨Hs, ⟨Hp, Hm, Hl, Ha, HA, HM⟩, Hb, Hn⟩
  iapply (wp_rest (grid0.coords t) A1 hA1 A2 hA2 A3 hA3 A4 hA4 A5 hA5 A6 hA6 c _ (iblk m c 0 t) (iblk m c 1 t) (iblk m c 2 t) (stAt m c t.val)) $$ [Hq Hkk Hv Hp Hm Hl Ha]
  · isplitl [Hq]; · iexact Hq
    isplitl [Hkk]; · iexact Hkk
    isplitl [Hv]; · iexact Hv
    isplitl [Hp]; · iexact Hp
    isplitl [Hm]; · iexact Hm
    isplitl [Hl] <;> iassumption
  have hst : step (k0_pay16 (grid0.coords t) c (iblk m c 3 t) (iblk m c 4 t)) (iblk m c 0 t) (iblk m c 1 t) (iblk m c 2 t) (stAt m c t.val)
      = stAt m c (t.val + 1) := (stAt_succ m c t).symm
  rw [hst]
  iintro ⟨Hq, Hkk, Hv, Hp, Hm, Hl, Ha⟩
  by_cases h7 : t.val = 7
  · have h2 := (last_iff t).2 h7
    rw [dif_pos h2, if_pos h7, h7, inv_last, if_neg (by decide)]
    iapply (wp_exch (wA m) (wM m) (grid0.coords t) A1 hA1 A2 hA2 A3 hA3 A4 hA4 A5 hA5 A6 hA6 c _ h2 W (stAt m c 8).m (stAt m c 8).l (stAt m c 8).a rfl rfl o) $$ [Hs HO Hm Hl Ha HA HM Ho]
    · isplitl [Hs]; · iexact Hs
      isplitl [HO]; · iexact HO
      isplitl [Hm]; · iexact Hm
      isplitl [Hl]; · iexact Hl
      isplitl [Ha]; · iexact Ha
      isplitl [HA]; · iexact HA
      isplitl [HM] <;> iassumption
    iintro ⟨HO, Hm, Hl, Ha, HA, HM, Ho, Hz⟩
    iapply Hk
    unfold anyScratch
    isplitl [Hp Hm Hl Ha HA HM Hz]
    · isplitl [Hp Hm Hl Ha HA HM]
      · isplitl [Hp]; · iexists _; iexact Hp
        isplitl [Hm]; · iexists _; iexact Hm
        isplitl [Hl]; · iexists _; iexact Hl
        isplitl [Ha]; · iexists _; iexact Ha
        isplitl [HA] <;> iassumption
      iexact Hz
    isplitl [HO]; · iexact HO
    isplitl [Hq Hkk Hv Hb Hn]
    · isplitl [Hq]; · iexact Hq
      isplitl [Hkk]; · iexact Hkk
      isplitl [Hv]; · iexact Hv
      isplitl [Hb] <;> iassumption
    unfold result; iexact Ho
  · have hlt : t.val + 1 < 8 := by have := t.isLt; have hN : cfg0.N = 8 := N_0; omega
    rw [dif_neg fun h => h7 ((last_iff t).1 h), if_neg h7, if_pos hlt, inv_mid m c (Nat.succ_ne_zero _) hlt, Prog.pure_eq_ret, WP_ret]
    imodintro
    iapply Hk
    unfold atScratch
    isplitl [Hs Hp Hm Hl Ha HA HM]
    · isplitl [Hs]; · iexact Hs
      isplitl [Hp]; · iexact Hp
      isplitl [Hm]; · iexact Hm
      isplitl [Hl]; · iexact Hl
      isplitl [Ha]; · iexact Ha
      isplitl [HA] <;> iassumption
    isplitl [HO]; · iexists _; iexact HO
    isplitl [Hq Hkk Hv Hb Hn]
    · isplitl [Hq]; · iexact Hq
      isplitl [Hkk]; · iexact Hkk
      isplitl [Hv]; · iexact Hv
      isplitl [Hb] <;> iassumption
    iexact Ho

/-- What the body finds in a window, and what it leaves there. -/
def found (c : Dev nD) (t : Fin cfg0.N) (w : Fin cfg0.W) : sProp 𝕄 :=
  iprop(∃ d, owns (c : Thread nD τ) ((cfg0.win w).stage (cfg0.slots t w)) fullShare ((dats m 0 c).before w t d))

/-- What is left in a window after a step. -/
def left (c : Dev nD) (t : Fin cfg0.N) (w : Fin cfg0.W) : sProp 𝕄 :=
  match cfg0.idle w (cfg0.grid.coords t) with
  | true =>
    match (cfg0.win w).flush t with
    | false => found m c t w
    | true => owns (c : Thread nD τ) ((cfg0.win w).stage (cfg0.slots t w)) fullShare ((dats m 0 c).after w t)
  | false => owns (c : Thread nD τ) ((cfg0.win w).stage (cfg0.slots t w)) fullShare ((dats m 0 c).after w t)

/-- The queries' block is left in its window. -/
theorem left_0 (c : Dev nD) (t : Fin cfg0.N) : left m c t 0 = owns (c : Thread nD τ) (st0_0 t) fullShare (iblk m c 0 t) := rfl
/-- The keys' block is left in its window. -/
theorem left_1 (c : Dev nD) (t : Fin cfg0.N) : left m c t 1 = owns (c : Thread nD τ) (st0_1 t) fullShare (iblk m c 1 t) := rfl
/-- The values' block is left in its window. -/
theorem left_2 (c : Dev nD) (t : Fin cfg0.N) : left m c t 2 = owns (c : Thread nD τ) (st0_2 t) fullShare (iblk m c 2 t) := rfl
/-- The page table is left in its window. -/
theorem left_3 (c : Dev nD) (t : Fin cfg0.N) : left m c t 3 = owns (c : Thread nD τ) (st0_3 t) fullShare (iblk m c 3 t) := rfl
/-- The lengths are left in their window. -/
theorem left_4 (c : Dev nD) (t : Fin cfg0.N) : left m c t 4 = owns (c : Thread nD τ) (st0_4 t) fullShare (iblk m c 4 t) := rfl

/-- After the last step the result's window holds the merged result. -/
theorem left_out_last (c : Dev nD) (t : Fin cfg0.N) (h : t.val = 7) :
    left m c t 5 = owns (c : Thread nD τ) ((cfg0.win 5).stage (cfg0.slots t 5)) fullShare (result m) := by
  have hi : cfg0.idle 5 (cfg0.grid.coords t) = false := by
    show (!(k0_cond2 (grid0.coords t) == 1#1)) = false
    rw [(last_iff t).2 h]; rfl
  unfold left; rw [hi]; rfl

/-- Before the last step the result's window is left as it was found. -/
theorem left_out (c : Dev nD) (t : Fin cfg0.N) (h : t.val ≠ 7) : left m c t 5 = found m c t 5 := by
  have hi : cfg0.idle 5 (cfg0.grid.coords t) = true := by
    show (!(k0_cond2 (grid0.coords t) == 1#1)) = true
    rw [beq_eq_false_iff_ne.2 fun h' => h ((last_iff t).1 h')]; rfl
  have hf : (cfg0.win 5).flush t = false := by
    have := t.isLt; have hN : cfg0.N = 8 := N_0
    have := flush0_5 t
    cases hb : (cfg0.win 5).flush t
    · rfl
    · have := this.1 hb; omega
  unfold left; rw [hi]; simp only; rw [hf]

set_option maxRecDepth 4000 in
set_option maxHeartbeats 1600000 in
/-- The region's body obligation on device `c`. -/
theorem body_obligation (c : Dev nD) : BodyObligation (dats m 0 c) (defs₀ (F := F)) 𝒱₀ () Set.univ := fun t => by
  show iprop(inv m c t.val ∗ (dats m 0 c).owesAt () t.castSucc ∗ bigSep Finset.univ (found m c t))
    ⊢ WP c (bodyAt0 t) fun _ => iprop(inv m c (t.val + 1) ∗ (dats m 0 c).owesAt () t.succ ∗ bigSep Finset.univ (left m c t))
  rw [bigSep_W0 (found m c t), bigSep_W0 (left m c t)]
  unfold Dat.owesAt Pipeline.owesWithin
  rw [show (dats m 0 c).owed t.castSucc = O₀ c from if_pos t.isLt, show (dats m 0 c).owed t.succ = (if t.val + 1 < 8 then O₀ c else 0) from rfl]
  iintro ⟨Hi, ⟨%W, %hW, HO⟩, F0, F1, F2, F3, F4, F5⟩
  unfold found
  icases F0 with ⟨%d0, F0⟩
  icases F1 with ⟨%d1, F1⟩
  icases F2 with ⟨%d2, F2⟩
  icases F3 with ⟨%d3, F3⟩
  icases F4 with ⟨%d4, F4⟩
  icases F5 with ⟨%d5, F5⟩
  rw [before_0, before_1, before_2, before_3, before_4]
  iapply (wp_point (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    m c t W ((dats m 0 c).before 5 t d5)) $$ [Hi HO F0 F1 F2 F3 F4 F5]
  · isplitl [Hi]; · iexact Hi
    isplitl [HO]; · iexact HO
    isplitr [F5]
    · unfold blocks
      isplitl [F0]; · iexact F0
      isplitl [F1]; · iexact F1
      isplitl [F2]; · iexact F2
      isplitl [F3] <;> iassumption
    iexact F5
  unfold blocks
  iintro ⟨Hi, ⟨%W', HO⟩, ⟨F0, F1, F2, F3, F4⟩, F5⟩
  isplitl [Hi]; · iexact Hi
  isplitl [HO]
  · iexists W'
    isplitr; · ipureintro; exact fun _ _ => Or.inl trivial
    iexact HO
  rw [left_0, left_1, left_2, left_3, left_4]
  isplitl [F0]; · iexact F0
  isplitl [F1]; · iexact F1
  isplitl [F2]; · iexact F2
  isplitl [F3]; · iexact F3
  isplitl [F4]; · iexact F4
  by_cases h7 : t.val = 7
  · rw [left_out_last m c t h7, if_pos h7]; iexact F5
  · rw [left_out m c t h7, if_neg h7]; unfold found; iexists d5; iexact F5

end Data

end Cert.KernelIdeal.Exchange

end
-- ==== Proof.Start.lean ====
/-
# The launch's resources

The cells' ghost state as the launch mints it, the duty tokens dealt to the devices that pay them, and the credits
each device waits on.
-/
module

public import proofs.«01_k».proof.Proof.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Cells and tokens -/

/-- The copies' semaphores are the kernel's own and none of its windows'. -/
theorem ownSemFacts : Pipeline.OwnSemFacts cfg0.spec osem := by decide

/-- The exchange's semaphores differ from one another. -/
theorem csem_injective : Function.Injective csem := by decide

/-- The devices' semaphores differ from one another. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The cells of the exchange. -/
def xCells : Finset (GSem nD τ sig) := Finset.univ.map ⟨kcell, kcell_injective⟩

/-- The duties of a device's own cells, per peer: its barrier's, and its four DMA cells'. -/
abbrev Tk : Type := Unit ⊕ Fin 4
/-- The duty that a token stands for. -/
abbrev tokOf (x : Dev nD × Fin 3 × Tk) : GSem nD τ sig × ℕ × Fin 3 := match x.2.2 with
  | .inl _ => (barCell x.1, 0, x.2.1)
  | .inr κ => (dcell x.1 κ (pe x.2.1 x.1), 0, 0)

/-- Different tokens stand for different duties. -/
theorem tokOf_injective : Function.Injective tokOf := by
  have hs : ∀ (c : Dev nD) (x y : Fin 3 × Tk), ((tokOf (c, x)).1.2, (tokOf (c, x)).2) = ((tokOf (c, y)).1.2, (tokOf (c, y)).2) → x = y := by decide
  rintro ⟨c, x⟩ ⟨c', y⟩ h
  have h1 : c = c' := by
    have := congrArg (fun g : GSem nD τ sig × ℕ × Fin 3 => g.1.1.1) h
    rcases x with ⟨k, _ | κ⟩ <;> rcases y with ⟨k', _ | κ'⟩ <;> exact this
  subst h1
  rw [hs c x y (congrArg (fun g : GSem nD τ sig × ℕ × Fin 3 => (g.1.2, g.2)) h)]

/-- All tokens. -/
def xToks : Finset (GSem nD τ sig × ℕ × Fin 3) := Finset.univ.map ⟨tokOf, tokOf_injective⟩

/-- The launch element: the pipeline's cells and the exchange's. -/
def u₀ : UU :=
  (initOf (Pipeline.cells cfgs cellOf_inj) (Pipeline.launchToks cfgs cellOf_inj), initOf xCells xToks)

/-- The tokens of device `c`'s own cells. -/
def toks (c : Dev nD) : sProp 𝕄 :=
  bigSep Finset.univ fun k : Fin 3 => iprop(dutyTok ER (barCell c) 0 k
    ∗ dutyTok ER (dcell c 0 (pe k c)) 0 0 ∗ dutyTok ER (dcell c 1 (pe k c)) 0 0
    ∗ dutyTok ER (dcell c 2 (pe k c)) 0 0 ∗ dutyTok ER (dcell c 3 (pe k c)) 0 0)

/-- A separating product over the kinds of token, written out. -/
theorem bigSep_Tk {M : Type} [URA M] (Φ : Tk → sProp M) :
    bigSep Finset.univ Φ = iprop(Φ (.inl ()) ∗ Φ (.inr 0) ∗ Φ (.inr 1) ∗ Φ (.inr 2) ∗ Φ (.inr 3)) :=
  bigSep_univ_eq_bigSepL [(.inl () : Tk), (.inr 0 : Tk), (.inr 1 : Tk), (.inr 2 : Tk), (.inr 3 : Tk)] (by decide) (by decide) Φ

variable (WA : Dev nD → Vec F S1x64x128 .f32) (WM : Dev nD → Vec F S1x64x2 .f32)

/-- What the launch deals device `c`. -/
def G (c : Dev nD) : sProp 𝕄 :=
  iprop((bigSep Finset.univ fun k : Ck => roundState ER (Rd WA WM) (kcell (c, k)) 0)
    ∗ (bigSep Finset.univ fun k : Ck => iprop(atPos ER (kcell (c, k)) 0 ∅ 0 ∗ reached ER (kcell (c, k)) 0)) ∗ toks c)

/-- What the devices make of it together. -/
def G' (c : Dev nD) : sProp 𝕄 := iprop(∃ K, records WA WM K ∗ positions c ∗ payToks c)

/-- The rounds' ghost state, allotted to the devices. -/
theorem fund : BI.own (ER (initOf xCells xToks)) ⊢ (|==> bigSep Finset.univ (G WA WM) : sProp 𝕄) := by
  have hX (Φ : GSem nD τ sig → sProp 𝕄) : bigSep xCells Φ = bigSep Finset.univ fun c : Dev nD => bigSep Finset.univ fun k : Ck => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    refine bigSep_congr fun c _ => ?_
    unfold toks; rw [bigSep_univ_prod]
    exact bigSep_congr fun k _ => by rw [bigSep_Tk]; rfl
  iintro HX
  imod (Rounds.fund ER (Rd WA WM) xCells xToks) $$ HX with ⟨Hst, Hr, Hat, Htok⟩
  imodintro
  ihave Hst := (Entails.of_eq (hX fun g => roundState ER (Rd WA WM) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

/-- A separating product over a device's semaphores: the barrier's and the copies'. -/
theorem bigSep_Ck {M : Type} [URA M] (Φ : Ck → sProp M) : bigSep Finset.univ Φ = iprop(Φ (.inl ()) ∗ bigSep Finset.univ fun kz => Φ (.inr kz)) := by
  rw [bigSep_univ_sum]
  exact congrArg (fun X => iprop(X ∗ bigSep Finset.univ fun kz => Φ (.inr kz))) (bigSep_univ_eq_bigSepL [()] (by decide) (by decide) fun u => Φ (.inl u))

/-- The barrier semaphore is the one the kernel shares with the runtime. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero, written out. -/
theorem sems_eq (c : Dev nD) :
    (bigSep Finset.univ fun k : Ck => semVal (kcell (c, k)) 0 : sProp 𝕄) = iprop(unscopedSems0 c ∗ Pipeline.ownSems0 (Ix := Unit) (Name := ℕ) (U := UU) (Lvl := ℕ) (Val := Elt F) (τ := τ) osem c) := by
  rw [bigSep_Ck (fun k => semVal (kcell (c, k)) 0), unscopedSems0_eq]; rfl

/-- A device's cells, opened as invariants. -/
theorem core_alloc (c : Dev nD) :
    iprop(Pipeline.ownSems0 (Ix := Unit) (Name := ℕ) (U := UU) (Lvl := ℕ) (Val := Elt F) (τ := τ) osem c ∗ unscopedSems0 c ∗ G WA WM c)
      ⊢ |={Set.univ}=> iprop((bigSep Finset.univ fun k => iprop(∃ κ : ℕ, cellInv ER (Rd WA WM) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  imod (show iprop((bigSep Finset.univ fun k : Ck => semVal (kcell (c, k)) 0) ∗ bigSep Finset.univ fun k : Ck => roundState ER (Rd WA WM) (kcell (c, k)) 0)
      ⊢ (|={Set.univ}=> bigSep Finset.univ fun k => iprop(∃ κ : ℕ, cellInv ER (Rd WA WM) κ (kcell (c, k))) : sProp 𝕄) from by
        rw [← bigSep_sep']
        exact (bigSep_mono fun k _ => (Rounds.body_intro ER (Rd WA WM) (kcell (c, k))).trans inv_alloc).trans (bigSep_fupd _ _)) $$ [Hos Hus Hst] with Hinv
  · isplitr [Hst]
    · rw [sems_eq]
      isplitl [Hus] <;> iassumption
    iexact Hst
  imodintro
  isplitl [Hinv]; · iexact Hinv
  isplitl [Hat]; · iexact Hat
  iexact Htok

/-! ## Dealing the tokens -/

/-- A peer and the place it sees the device at. -/
def across : Dev nD × Fin 3 ≃ Dev nD × Fin 3 where
  toFun x := (pe x.2 x.1, x.2.rev)
  invFun x := (pe x.2 x.1, x.2.rev)
  left_inv x := by dsimp only; rw [pe_rev, Fin.rev_rev]
  right_inv x := by dsimp only; rw [pe_rev, Fin.rev_rev]

/-- A peer, by the same number. -/
def along : Dev nD × Fin 3 ≃ Dev nD × Fin 3 where
  toFun x := (pe x.2 x.1, x.2)
  invFun x := (pe x.2.rev x.1, x.2)
  left_inv x := by dsimp only; rw [pe_rev]
  right_inv x := by
    have h := pe_rev x.2.rev x.1
    rw [Fin.rev_rev] at h
    dsimp only; rw [h]

/-- A family over devices and peers, dealt along `e`. -/
theorem deal (e : Dev nD × Fin 3 ≃ Dev nD × Fin 3) (Φ Ψ : Dev nD → Fin 3 → sProp 𝕄) (h : ∀ c k, Φ (e (c, k)).1 (e (c, k)).2 = Ψ c k) :
    (bigSep Finset.univ fun c => bigSep Finset.univ fun k => Φ c k) = bigSep Finset.univ fun c => bigSep Finset.univ fun k => Ψ c k := by
  rw [← bigSep_univ_prod (fun x : Dev nD × Fin 3 => Φ x.1 x.2), ← bigSep_univ_prod (fun x : Dev nD × Fin 3 => Ψ x.1 x.2), bigSep_univ_equiv e]
  exact bigSep_congr fun x _ => h x.1 x.2

/-- Each device's tokens are handed to the devices that pay with them. -/
theorem toks_around : (bigSep Finset.univ fun c : Dev nD => (toks c : sProp 𝕄)) ⊢ bigSep Finset.univ fun c : Dev nD => payToks c := by
  have hp (c : Dev nD) (k : Fin 3) : pe k.rev (pe k c) = c := pe_rev k c
  unfold toks payToks
  simp only [bigSep_sep']
  rw [deal along (fun c k => (dutyTok ER (barCell c) 0 k : sProp 𝕄)) (fun c k => dutyTok ER (barCell (pe k c)) 0 k) fun c k => rfl,
    deal across (fun c k => (dutyTok ER (dcell c 1 (pe k c)) 0 0 : sProp 𝕄)) (fun c k => dutyTok ER (dcell (pe k c) 1 c) 0 0) fun c k => by
      show dutyTok ER (dcell (pe k c) 1 (pe k.rev (pe k c))) 0 0 = _
      rw [hp],
    deal across (fun c k => (dutyTok ER (dcell c 3 (pe k c)) 0 0 : sProp 𝕄)) (fun c k => dutyTok ER (dcell (pe k c) 3 c) 0 0) fun c k => by
      show dutyTok ER (dcell (pe k c) 3 (pe k.rev (pe k c))) 0 0 = _
      rw [hp]]

/-- What can be copied may be used at every factor of a separating product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The allotted parts, gathered device by device. -/
theorem regroup :
    (bigSep Finset.univ fun c : Dev nD => iprop((bigSep Finset.univ fun k => iprop(∃ κ : ℕ, cellInv ER (Rd WA WM) κ (kcell (c, k))))
          ∗ (bigSep Finset.univ fun k => iprop(atPos ER (kcell (c, k)) 0 ∅ 0 ∗ reached ER (kcell (c, k)) 0)) ∗ toks c) : sProp 𝕄)
      ⊢ bigSep Finset.univ (G' WA WM) := by
  rw [bigSep_sep', bigSep_sep', ← bigSep_univ_prod (fun ck : Dev nD × Ck => iprop(∃ κ : ℕ, cellInv ER (Rd WA WM) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (Rd WA WM) κ (kcell ck) : sProp 𝕄))) $$ HI
  icases HK with ⟨%K, #HI⟩
  ihave Htk := (toks_around (F := F)) $$ Htok
  iapply (bigSep_with_persistent (R := records WA WM K) (Φ := fun c => iprop(positions c ∗ payToks c)) fun c _ => show iprop(records WA WM K ∗ positions c ∗ payToks c) ⊢ G' WA WM c from by
    unfold G'; iintro H; iexists K; iexact H)
  isplitr
  · unfold records; isplitl; · iexact HI
    iexact HR
  · rw [bigSep_sep']
    unfold positions
    isplitl [Hat]; · iexact Hat
    iexact Htk

/-- All devices at once: every cell's invariant made, every token where it is paid. -/
theorem glob : (bigSep Finset.univ fun c => iprop(Pipeline.ownSems0 (Ix := Unit) (Name := ℕ) (U := UU) (Lvl := ℕ) (Val := Elt F) (τ := τ) osem c ∗ unscopedSems0 c ∗ G WA WM c) : sProp 𝕄)
    ⊢ |={Set.univ}=> bigSep Finset.univ (G' WA WM) :=
  ((bigSep_mono fun c _ => core_alloc WA WM c).trans (bigSep_fupd _ _)).trans (BI.fupd_mono (regroup WA WM))

/-! ## The launch credit -/

/-- Barriers are equal just where their devices are. -/
theorem bar_eq_iff {a b : Dev nD} : barCell a = barCell b ↔ a = b :=
  ⟨fun h => congrArg (fun g : GSem nD τ sig => g.1.1) h, fun h => h ▸ rfl⟩
/-- Copies' semaphores are equal just where device, kind and slot are. -/
theorem dcell_eq_iff {a b : Dev nD} {κ κ' : Fin 4} {z z' : Dev nD} : dcell a κ z = dcell b κ' z' ↔ a = b ∧ κ = κ' ∧ z = z' := by
  constructor
  · intro h
    have h1 : ((a, .inr (κ, z)) : Dev nD × Ck) = (b, .inr (κ', z')) := kcell_injective h
    simp only [Prod.mk.injEq, Sum.inr.injEq] at h1
    exact h1
  · rintro ⟨rfl, rfl, rfl⟩; rfl
/-- A barrier is no copy's semaphore. -/
theorem bar_ne_dcell (a b : Dev nD) (κ : Fin 4) (z : Dev nD) : barCell a ≠ dcell b κ z := fun h => by
  have h1 : ((a, .inl ()) : Dev nD × Ck) = (b, .inr (κ, z)) := kcell_injective h
  simp at h1

/-- The barrier's credit at the launch. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  unfold O₀ Os
  generalize NA = a; generalize NM = b
  simp only [Pi.add_apply, Finsupp.add_apply, Pi.zero_apply, Finsupp.zero_apply, tallyAt_apply, bar_eq_iff, bar_ne_dcell, false_and, and_true, if_false, Nat.zero_add]
  revert c; decide

/-- The credit of an arriving copy at the launch. -/
theorem launch_recv (κ : Fin 4) (n : ℕ) (hκ : κ = 1 ∧ n = NA ∨ κ = 3 ∧ n = NM) (c : Dev nD) (k : Fin 3) :
    tallyOn (dcell c κ (pe k c)) (launchCredit (Pipeline.owing O₀) 0 (dcell c κ (pe k c))) = (tallyAt (dcell c κ (pe k c)) () n : CellTallies nD τ sig Unit) := by
  unfold tallyAt; refine congrArg _ (Finsupp.ext fun u => ?_); cases u
  rw [Pipeline.launchCredit_owing, Finsupp.single_eq_same]
  unfold O₀ Os
  revert hκ
  generalize NA = a; generalize NM = b
  intro hκ
  simp only [Pi.add_apply, Finsupp.add_apply, Pi.zero_apply, Finsupp.zero_apply, tallyAt_apply, dcell_eq_iff, fun a b κ z => (bar_ne_dcell a b κ z).symm, false_and, and_true, if_false, Nat.zero_add, Nat.add_zero]
  rcases hκ with ⟨rfl, rfl⟩ | ⟨rfl, rfl⟩ <;> fin_cases c <;> fin_cases k <;> simp [pe, Fin.sum_univ_succ, nD]

/-- The launch's credits are those that a device waits with. -/
theorem creds (c : Dev nD) : (Pipeline.launchCred O₀ c : sProp 𝕄) ⊢ credits c := by
  have hd (κ : Fin 4) (n : ℕ) (hκ : κ = 1 ∧ n = NA ∨ κ = 3 ∧ n = NM) :
      (bigSep Finset.univ fun z : Dev nD => (cred (tallyOn (dcell c κ z) (launchCredit (Pipeline.owing O₀) 0 (dcell c κ z))) : sProp 𝕄))
        ⊢ bigSep Finset.univ fun k : Fin 3 => cred (tallyAt (dcell c κ (pe k c)) () n) := by
    rw [bigSep_peers c, bigSep_three, launch_recv κ n hκ c 0, launch_recv κ n hκ c 1, launch_recv κ n hκ c 2]
    exact sep_elim_right
  have hk : (Pipeline.launchCred O₀ c : sProp 𝕄)
      ⊢ bigSep Finset.univ fun k : Ck => cred (tallyOn (kcell (c, k)) (launchCredit (Pipeline.owing O₀) 0 (kcell (c, k)))) := by
    unfold Pipeline.launchCred
    refine (bigSep_subset (Finset.subset_univ (Finset.univ.map ⟨csem, csem_injective⟩))).trans ?_
    exact Entails.of_eq (bigSep_map _)
  rw [bigSep_Ck, bigSep_univ_prod, bigSep_four (fun κ => bigSep Finset.univ fun z : Dev nD => _), show kcell (c, .inl ()) = barCell c from rfl, launch_bar] at hk
  unfold credits
  rw [bigSep_sep']
  iintro H
  ihave H := hk $$ H
  icases H with ⟨HB, -, H1, -, H3⟩
  isplitl [HB]; · iexact HB
  isplitl [H1]
  · iapply (hd 1 NA (.inl ⟨rfl, rfl⟩)); iexact H1
  iapply (hd 3 NM (.inr ⟨rfl, rfl⟩)); iexact H3

end Cert.KernelIdeal.Exchange

end
-- ==== Proof.Outcome.lean ====
/-
# The run

Every weakly fair execution of the four devices' programs ends, with every device's result array holding the merged
tables, its arguments as they were and every semaphore at zero.
-/
module

public import proofs.«01_k».proof.Proof.Start
public import Idealize.ShloMosaic.Lib.Pipeline.CollectiveSegs
public import Idealize.ShloMosaic.Lib.Pipeline.ValueKit

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A buffer held whole, its contents not named. -/
theorem owns_whole_eq (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) := by
  have there : (iprop(∃ X, owns (c : Thread nD τ) (Memref.whole b) fullShare X) : sProp 𝕄)
      ⊢ iprop(∃ f : Buf (Elt F) ((c : Thread nD τ).loc b), ((c : Thread nD τ).loc b) ↦{fullShare} f) := by
    unfold owns; simp only [Memref.view_whole, View.read_whole, View.set_whole]
    iintro ⟨%X, %f, %h, H⟩; iexists f; iexact H
  have back : (iprop(∃ f : Buf (Elt F) ((c : Thread nD τ).loc b), ((c : Thread nD τ).loc b) ↦{fullShare} f) : sProp 𝕄)
      ⊢ iprop(∃ X, owns (c : Thread nD τ) (Memref.whole b) fullShare X) := by
    unfold owns; simp only [Memref.view_whole, View.read_whole, View.set_whole]
    iintro ⟨%f, H⟩; iexists f; iexists f; isplitr
    · ipureintro; rfl
    · iexact H
  exact Entails.antisymm there back

/-- Each window is owned whole. -/
theorem share_eq (c : Dev nD) (w : Fin cfg0.W) : (dats m 0 c).share w = fullShare := by unfold Dat.share; split <;> rfl

/-- What the launch gives a device is what its exchange starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (wA m) (wM m) c)
      ⊢ |={Set.univ}=> iprop(start (wA m) (wM m) c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The scratch beside the windows is the kernel's own scratch, with any contents. -/
theorem scratch_eq (c : Dev nD) : (Pipeline.scopedRest cfg0.spec c : sProp 𝕄) = anyScratch c := by
  rw [scopedRest0_eq]; unfold anyScratch
  exact congrArg₂ _ (owns_whole_eq c _).symm (congrArg₂ _ (owns_whole_eq c _).symm (congrArg₂ _ (owns_whole_eq c _).symm
    (congrArg₂ _ (owns_whole_eq c _).symm (congrArg₂ _ (owns_whole_eq c _).symm (owns_whole_eq c _).symm))))

/-- What a device has when its first step begins. -/
theorem enter (c : Dev nD) :
    iprop(start (wA m) (wM m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (wA m) (wM m) c ∗ anyScratch c) from inv_zero m c, scratch_eq]
  iintro ⟨Hs, -, Hr⟩
  isplitl [Hs] <;> iassumption

/-- What a device gives back after its last step. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(anyScratch c ∗ closed c) from inv_last m c, scratch_eq, unscopedSems0_eq]
  unfold closed Pipeline.ownSems0
  iintro ⟨Hr, HB, HS⟩
  isplitl [HB]; · iexact HB
  isplitl [HS] <;> iassumption

/-- The levels allow every wait for a window. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      show (if t.val < 8 then O₀ c else 0) = O₀ c ∨ (if t.val < 8 then O₀ c else 0) = 0
      split
      · exact Or.inl rfl
      · exact Or.inr rfl)

set_option maxRecDepth 8000 in
/-- The run: every window's array at its final contents, every semaphore at zero. -/
theorem run_windows : θ_run defs (onTc (τ := τ) (main (F := F))) ⟨m, fun _ => 0, ρ⟩ (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (wA m) (wM m)) (G' := G' (wA m) (wM m)) (u₀ := u₀)
    (hu₀ := by
      unfold u₀
      iintro Hu
      ihave H := (ownU_pair _ _) $$ Hu
      icases H with ⟨HP, HX⟩
      imod (fund (wA m) (wM m)) $$ HX with HG
      imodintro
      isplitl [HP] <;> iassumption)
    (hglob := glob (wA m) (wM m))
    (hA := fun _ _ => rfl) (hpf := fun _ k => k.elim0)
    (X := start (wA m) (wM m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array after the run: written once, whole, at the last point. -/
theorem final_out (c : Dev nD) : (dats m 0 c).arrAt 5 cfg0.N = result m := by
  refine (dats m 0 c).arrAt_eq_of_after_last 5 t0_7 (by decide +kernel) _ fun j => ?_
  blk_simp; rfl

/-- The run: every device's result is the merge of the four tables, its arguments are as they were, and every
    semaphore is at zero. -/
theorem run : θ_run defs (onTc (τ := τ) (main (F := F))) ⟨m, fun _ => 0, ρ⟩ (fun r =>
    (∀ c : Dev nD, r.2.mem ((c : Thread nD τ).loc main_v1) = result m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ?_, h.2⟩) (run_windows m ρ)
  exact ⟨(h.1 c 5).trans (final_out m c), (h.1 c 0).trans ((dats m 0 c).arrAt_in 0 rfl _), (h.1 c 1).trans ((dats m 0 c).arrAt_in 1 rfl _),
    (h.1 c 2).trans ((dats m 0 c).arrAt_in 2 rfl _), (h.1 c 3).trans ((dats m 0 c).arrAt_in 3 rfl _), (h.1 c 4).trans ((dats m 0 c).arrAt_in 4 rfl _)⟩

end Cert.KernelIdeal.Exchange

end
-- ==== Proof.Softmax.lean ====
/-
# Softmax-weighted sums over the extended reals

A family of entries, each with a real score `x`, a multiplicity `n` and an extended real `v`: the running triple of a
softmax taken in blocks, the merge of several such triples, and the softmax in one pass.
-/
module

public import Idealize.ShloMosaic.PureOps.Ideal
public import Mathlib.Tactic.FieldSimp
public import Mathlib.Tactic.Positivity.Finset
public import Mathlib.Tactic.Push
public import Mathlib.Tactic.Linarith

@[expose] public section

noncomputable section

namespace Cert.Attention

open Idealize.ShloMosaic

/-! ## Sums of extended reals -/

/-- A nonnegative real factor goes into a sum of extended reals. -/
theorem mul_sum_of_nonneg {ι : Type} (s : Finset ι) (c : ℝ) (hc : 0 ≤ c) (f : ι → EReal) :
    (∑ i ∈ s, f i) * (c : EReal) = ∑ i ∈ s, f i * (c : EReal) := by
  classical
  induction s using Finset.induction_on with
  | empty => simp
  | insert i s hi ih =>
    rw [Finset.sum_insert hi, Finset.sum_insert hi, ← ih, EReal.right_distrib_of_nonneg_of_ne_top (EReal.coe_nonneg.2 hc) (EReal.coe_ne_top c)]

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of nonnegative factors of one extended real. -/
theorem sum_mul_of_nonneg {ι : Type} (s : Finset ι) (f : ι → ℝ) (hf : ∀ i ∈ s, 0 ≤ f i) (v : EReal) :
    ((∑ i ∈ s, f i : ℝ) : EReal) * v = ∑ i ∈ s, (f i : EReal) * v := by
  classical
  induction s using Finset.induction_on with
  | empty => simp
  | insert i s hi ih =>
    rw [Finset.sum_insert hi, Finset.sum_insert hi, EReal.coe_add,
      EReal.right_distrib_of_nonneg (EReal.coe_nonneg.2 (hf i (Finset.mem_insert_self i s)))
        (EReal.coe_nonneg.2 (Finset.sum_nonneg fun j hj => hf j (Finset.mem_insert_of_mem hj))),
      ih fun j hj => hf j (Finset.mem_insert_of_mem hj)]

/-! ## A block's scores -/

/-- The score of `n` entries at `x` each: their common exponential's sum, in logarithm. -/
def score (x : ℝ) (n : ℕ) : EReal := if n = 0 then ⊥ else ((x + Real.log n : ℝ) : EReal)

/-- The exponential of minus infinity less anything is zero. -/
theorem exp_bot_sub (M : EReal) : Ideal.exp (⊥ - M) = 0 := by rw [EReal.bot_sub]; rfl

/-- The exponential of a score less a real is the count times the exponential of the difference. -/
theorem exp_score (x : ℝ) (n : ℕ) (μ : ℝ) : Ideal.exp (score x n - (μ : EReal)) = ((n * Real.exp (x - μ) : ℝ) : EReal) := by
  unfold score
  split
  · next h => subst h; rw [exp_bot_sub]; simp
  · next h =>
    rw [← EReal.coe_sub]
    show ((Real.exp _ : ℝ) : EReal) = _
    rw [show x + Real.log n - μ = Real.log n + (x - μ) by ring, Real.exp_add, Real.exp_log (by positivity)]

/-- No score is plus infinity. -/
theorem score_ne_top (x : ℝ) (n : ℕ) : score x n ≠ ⊤ := by
  unfold score; split
  · exact bot_ne_top
  · exact EReal.coe_ne_top _

/-- A score is minus infinity just where the count is zero. -/
theorem score_eq_bot {x : ℝ} {n : ℕ} : score x n = ⊥ ↔ n = 0 := by
  unfold score; split
  · next h => simp [h]
  · next h => simp only [h, iff_false]; exact EReal.coe_ne_bot _

/-- The greatest of finitely many extended reals, none of them plus infinity, is not plus infinity, -/
theorem sup_ne_top {ι : Type} (s : Finset ι) (f : ι → EReal) (h : ∀ i ∈ s, f i ≠ ⊤) : s.sup f ≠ ⊤ :=
  ((Finset.sup_lt_iff (bot_lt_top)).2 fun i hi => lt_top_iff_ne_top.2 (h i hi)).ne

/-- and it is minus infinity where all of them are. -/
theorem sup_eq_bot {ι : Type} (s : Finset ι) (f : ι → EReal) : s.sup f = ⊥ ↔ ∀ i ∈ s, f i = ⊥ := Finset.sup_eq_bot_iff f s

/-! ## The running triple -/

variable {τ κ : Type} [Fintype κ] [DecidableEq τ]

/-- The entries' exponentials summed, shifted by `μ`, -/
def wsum (T : Finset τ) (x : τ → κ → ℝ) (n : τ → κ → ℕ) (μ : ℝ) : ℝ := ∑ t ∈ T, ∑ j, n t j * Real.exp (x t j - μ)

/-- and the values summed with those weights. -/
def vsum (T : Finset τ) (x : τ → κ → ℝ) (n : τ → κ → ℕ) (v : τ → κ → EReal) (μ : ℝ) : EReal :=
  ∑ t ∈ T, ∑ j, ((n t j * Real.exp (x t j - μ) : ℝ) : EReal) * v t j

/-- `m`, `l`, `a` stand for the entries of the blocks in `T`: `m` is minus infinity while there is none; else it is some real, and
    `l` and `a` are the two sums shifted by it. -/
def Summary (T : Finset τ) (x : τ → κ → ℝ) (n : τ → κ → ℕ) (v : τ → κ → EReal) (m l a : EReal) : Prop :=
  (m = ⊥ ∧ l = 0 ∧ a = 0 ∧ ∀ t ∈ T, ∀ j, n t j = 0)
    ∨ ∃ μ : ℝ, m = (μ : EReal) ∧ l = (wsum T x n μ : EReal) ∧ a = vsum T x n v μ ∧ ∃ t ∈ T, ∃ j, n t j ≠ 0

variable {T : Finset τ} {x : τ → κ → ℝ} {n : τ → κ → ℕ} {v : τ → κ → EReal} {m l a : EReal}

/-- No block, no entry. -/
theorem Summary.empty : Summary ∅ x n v ⊥ 0 0 := Or.inl ⟨rfl, rfl, rfl, by simp⟩

/-- The sum of weights is not negative. -/
theorem wsum_nonneg (T : Finset τ) (x : τ → κ → ℝ) (n : τ → κ → ℕ) (μ : ℝ) : 0 ≤ wsum T x n μ :=
  Finset.sum_nonneg fun t _ => Finset.sum_nonneg fun j _ => by positivity

/-- The sum of weights is positive where some count is not zero. -/
theorem wsum_pos (h : ∃ t ∈ T, ∃ j, n t j ≠ 0) (x : τ → κ → ℝ) (μ : ℝ) : 0 < wsum T x n μ := by
  obtain ⟨t, ht, j, hj⟩ := h
  refine Finset.sum_pos' (fun t _ => Finset.sum_nonneg fun j _ => by positivity) ⟨t, ht, ?_⟩
  exact Finset.sum_pos' (fun j _ => by positivity) ⟨j, Finset.mem_univ j, by positivity⟩

/-- The shift moved from `μ` to `M`. -/
theorem wsum_shift (T : Finset τ) (x : τ → κ → ℝ) (n : τ → κ → ℕ) (μ M : ℝ) :
    wsum T x n μ * Real.exp (μ - M) = wsum T x n M := by
  unfold wsum
  rw [Finset.sum_mul]
  refine Finset.sum_congr rfl fun t _ => ?_
  rw [Finset.sum_mul]
  refine Finset.sum_congr rfl fun j _ => ?_
  rw [mul_assoc, ← Real.exp_add]; congr 2; ring

/-- Moving the reference point of a weighted sum multiplies it by one exponential. -/
theorem vsum_shift (T : Finset τ) (x : τ → κ → ℝ) (n : τ → κ → ℕ) (v : τ → κ → EReal) (μ M : ℝ) :
    vsum T x n v μ * ((Real.exp (μ - M) : ℝ) : EReal) = vsum T x n v M := by
  unfold vsum
  rw [mul_sum_of_nonneg _ _ (Real.exp_nonneg _)]
  refine Finset.sum_congr rfl fun t _ => ?_
  rw [mul_sum_of_nonneg _ _ (Real.exp_nonneg _)]
  refine Finset.sum_congr rfl fun j _ => ?_
  rw [mul_right_comm, ← EReal.coe_mul, mul_assoc, ← Real.exp_add, show x t j - μ + (μ - M) = x t j - M by ring]

/-- With all counts zero the sum of weights is zero. -/
theorem wsum_zero (h : ∀ t ∈ T, ∀ j, n t j = 0) (x : τ → κ → ℝ) (μ : ℝ) : wsum T x n μ = 0 :=
  Finset.sum_eq_zero fun t ht => Finset.sum_eq_zero fun j _ => by simp [h t ht j]

/-- With all counts zero the weighted sum is zero. -/
theorem vsum_zero (h : ∀ t ∈ T, ∀ j, n t j = 0) (x : τ → κ → ℝ) (v : τ → κ → EReal) (μ : ℝ) : vsum T x n v μ = 0 :=
  Finset.sum_eq_zero fun t ht => Finset.sum_eq_zero fun j _ => by simp [h t ht j]

/-- The two sums of a triple, shifted to `M`. -/
theorem Summary.rescale (h : Summary T x n v m l a) (M : ℝ) :
    l * Ideal.exp (m - (M : EReal)) = (wsum T x n M : EReal) ∧ a * Ideal.exp (m - (M : EReal)) = vsum T x n v M := by
  rcases h with ⟨rfl, rfl, rfl, h0⟩ | ⟨μ, rfl, rfl, rfl, -⟩
  · rw [wsum_zero h0, vsum_zero h0]; simp
  · rw [← EReal.coe_sub]
    show (wsum T x n μ : EReal) * ((Real.exp (μ - M) : ℝ) : EReal) = _ ∧ vsum T x n v μ * ((Real.exp (μ - M) : ℝ) : EReal) = _
    exact ⟨by rw [← EReal.coe_mul, wsum_shift], vsum_shift T x n v μ M⟩

/-- The maximum of a summary is not plus infinity. -/
theorem Summary.ne_top (h : Summary T x n v m l a) : m ≠ ⊤ := by
  rcases h with ⟨rfl, -⟩ | ⟨μ, rfl, -⟩
  · exact bot_ne_top
  · exact EReal.coe_ne_top μ

/-- The maximum of a summary is minus infinity just where all counts are zero. -/
theorem Summary.eq_bot (h : Summary T x n v m l a) : m = ⊥ ↔ ∀ t ∈ T, ∀ j, n t j = 0 := by
  rcases h with ⟨rfl, -, -, h0⟩ | ⟨μ, rfl, -, -, t, ht, j, hj⟩
  · simpa using h0
  · refine ⟨fun h => absurd h (EReal.coe_ne_bot μ), fun h => absurd (h t ht j) hj⟩

/-- One more block taken in. -/
theorem Summary.step (h : Summary T x n v m l a) {t : τ} (ht : t ∉ T) {M : EReal}
    (hM : M = max m (Finset.univ.sup fun j => score (x t j) (n t j))) :
    Summary (insert t T) x n v M (l * Ideal.exp (m - M) + ∑ j, Ideal.exp (score (x t j) (n t j) - M))
      (a * Ideal.exp (m - M) + ∑ j, Ideal.exp (score (x t j) (n t j) - M) * v t j) := by
  have htop : M ≠ ⊤ := by
    rw [hM]
    exact (max_lt (lt_top_iff_ne_top.2 h.ne_top) (lt_top_iff_ne_top.2 (sup_ne_top _ _ fun j _ => score_ne_top _ _))).ne
  have hbot : M = ⊥ ↔ ∀ t' ∈ insert t T, ∀ j, n t' j = 0 := by
    rw [hM, max_eq_bot, h.eq_bot, sup_eq_bot, Finset.forall_mem_insert]
    simp only [Finset.mem_univ, true_implies, score_eq_bot]
    exact and_comm
  by_cases hb : M = ⊥
  · have hm : m = ⊥ := h.eq_bot.2 fun t' ht' => hbot.1 hb t' (Finset.mem_insert_of_mem ht')
    have hs : ∀ j, score (x t j) (n t j) = ⊥ := fun j => score_eq_bot.2 (hbot.1 hb t (Finset.mem_insert_self t T) j)
    refine Or.inl ⟨hb, ?_, ?_, hbot.1 hb⟩
    · simp only [hm, hs, exp_bot_sub, mul_zero, Finset.sum_const_zero, add_zero]
    · simp only [hm, hs, exp_bot_sub, mul_zero, zero_mul, Finset.sum_const_zero, add_zero]
  · obtain ⟨μ, rfl⟩ : ∃ μ : ℝ, M = (μ : EReal) := ⟨M.toReal, (EReal.coe_toReal htop hb).symm⟩
    refine Or.inr ⟨μ, rfl, ?_, ?_, ?_⟩
    · rw [(h.rescale μ).1]; simp only [exp_score]
      rw [← coe_sum, ← EReal.coe_add, add_comm]; unfold wsum; rw [Finset.sum_insert ht]
    · rw [(h.rescale μ).2]; simp only [exp_score]
      rw [add_comm]; unfold vsum; rw [Finset.sum_insert ht]
    · by_contra hne; push Not at hne; exact hb (hbot.2 hne)

/-! ## The merge -/

/-- An entry's share of the whole softmax. -/
def share {ζ : Type} [Fintype ζ] (T : Finset τ) (x : ζ → τ → κ → ℝ) (n : ζ → τ → κ → ℕ) (z : ζ) (t : τ) (j : κ) : ℝ :=
  n z t j * Real.exp (x z t j) / ∑ z, ∑ t ∈ T, ∑ j, n z t j * Real.exp (x z t j)

/-- Several triples merged: their sums, weighted by how far each one's shift is below the greatest, divided. -/
theorem merge {ζ : Type} [Fintype ζ] {x : ζ → τ → κ → ℝ} {n : ζ → τ → κ → ℕ} {v : ζ → τ → κ → EReal} {m l a : ζ → EReal}
    (h : ∀ z, Summary T (x z) (n z) (v z) (m z) (l z) (a z)) (hne : ∃ z, ∃ t ∈ T, ∃ j, n z t j ≠ 0) {M : EReal}
    (hM : M = Finset.univ.sup m) :
    Ideal.div (∑ z, a z * Ideal.exp (m z - M)) (∑ z, l z * Ideal.exp (m z - M))
      = ∑ z, ∑ t ∈ T, ∑ j, (share T x n z t j : EReal) * v z t j := by
  obtain ⟨z₀, hz₀⟩ := hne
  have htop : M ≠ ⊤ := by rw [hM]; exact sup_ne_top _ _ fun z _ => (h z).ne_top
  have hb : M ≠ ⊥ := by
    rw [hM, Ne, sup_eq_bot]; intro h0
    obtain ⟨t, ht, j, hj⟩ := hz₀
    exact hj ((h z₀).eq_bot.1 (h0 z₀ (Finset.mem_univ z₀)) t ht j)
  obtain ⟨μ, rfl⟩ : ∃ μ : ℝ, M = (μ : EReal) := ⟨M.toReal, (EReal.coe_toReal htop hb).symm⟩
  simp only [fun z => ((h z).rescale μ).1, fun z => ((h z).rescale μ).2]
  have hpos : 0 < ∑ z, wsum T (x z) (n z) μ :=
    Finset.sum_pos' (fun z _ => wsum_nonneg ..) ⟨z₀, Finset.mem_univ z₀, wsum_pos hz₀ _ _⟩
  rw [← coe_sum, Ideal.div_coe hpos.ne', mul_sum_of_nonneg _ _ (by positivity)]
  refine Finset.sum_congr rfl fun z _ => ?_
  unfold vsum
  rw [mul_sum_of_nonneg _ _ (by positivity)]
  refine Finset.sum_congr rfl fun t _ => ?_
  rw [mul_sum_of_nonneg _ _ (by positivity)]
  refine Finset.sum_congr rfl fun j _ => ?_
  rw [mul_right_comm, ← EReal.coe_mul]
  congr 2
  unfold share
  have hs : (∑ z, ∑ t ∈ T, ∑ j, n z t j * Real.exp (x z t j)) = (∑ z, wsum T (x z) (n z) μ) * Real.exp μ := by
    rw [Finset.sum_mul]
    refine Finset.sum_congr rfl fun z _ => ?_
    have := wsum_shift T (x z) (n z) μ 0
    rw [sub_zero] at this
    rw [this]; unfold wsum; simp
  rw [hs, Real.exp_sub]
  field_simp

/-! ## The softmax in one pass -/

/-- The softmax of scores, minus infinity where nothing is live, applied to the values. -/
theorem softmax {ι : Type} [Fintype ι] (live : ι → Prop) [DecidablePred live] (x : ι → ℝ) (v : ι → EReal) (hne : ∃ i, live i)
    {M : EReal} (hM : M = Finset.univ.sup fun i => if live i then (x i : EReal) else ⊥) :
    (∑ i, Ideal.div (Ideal.exp ((if live i then (x i : EReal) else ⊥) - M))
        (∑ i, Ideal.exp ((if live i then (x i : EReal) else ⊥) - M)) * v i)
      = ∑ i, (((if live i then Real.exp (x i) else 0) / ∑ i, (if live i then Real.exp (x i) else 0) : ℝ) : EReal) * v i := by
  obtain ⟨i₀, hi₀⟩ := hne
  have htop : M ≠ ⊤ := by
    rw [hM]; refine sup_ne_top _ _ fun i _ => ?_
    split
    · exact EReal.coe_ne_top _
    · exact bot_ne_top
  have hb : M ≠ ⊥ := by
    rw [hM, Ne, sup_eq_bot]; intro h0
    have := h0 i₀ (Finset.mem_univ i₀)
    rw [if_pos hi₀] at this; exact EReal.coe_ne_bot _ this
  obtain ⟨μ, rfl⟩ : ∃ μ : ℝ, M = (μ : EReal) := ⟨M.toReal, (EReal.coe_toReal htop hb).symm⟩
  have he : ∀ i, Ideal.exp ((if live i then (x i : EReal) else ⊥) - (μ : EReal)) = (((if live i then Real.exp (x i - μ) else 0) : ℝ) : EReal) := by
    intro i; split
    · rw [← EReal.coe_sub]; rfl
    · exact exp_bot_sub _
  simp only [he]
  have hsum : (∑ i, if live i then Real.exp (x i) else 0) = (∑ i, if live i then Real.exp (x i - μ) else 0) * Real.exp μ := by
    rw [Finset.sum_mul]
    refine Finset.sum_congr rfl fun i _ => ?_
    split
    · rw [← Real.exp_add]; congr 1; ring
    · rw [zero_mul]
  have hpos : 0 < ∑ i, if live i then Real.exp (x i - μ) else 0 :=
    Finset.sum_pos' (fun i _ => by split <;> positivity) ⟨i₀, Finset.mem_univ i₀, by rw [if_pos hi₀]; positivity⟩
  rw [← coe_sum]
  refine Finset.sum_congr rfl fun i _ => ?_
  rw [Ideal.div_coe hpos.ne', ← EReal.coe_mul, hsum]
  congr 2
  split
  · rw [Real.exp_sub]; field_simp
  · simp

end Cert.Attention

end
-- ==== Proof.Reading.lean ====
module

public import proofs.«01_k».proof.Proof.Outcome
public import proofs.«01_k».proof.Proof.Softmax
public import Idealize.ShloMosaic.Lib.Pointwise
public import Idealize.ShloMosaic.Lib.Routing.Words
public import Idealize.ShloMosaic.Lib.IndicatorCount

/-!
# The kernel's arithmetic at an index

One iteration of the kernel folds 64 pages, that is 8192 columns, into the running triple of each of
its 64 rows. Row `r` is query `r / 8`, head `r % 8`; column `j` is page `j / 128`, token `j / 8 % 16`,
head `j % 8`. A column counts for a row when their heads agree, as many times as the query's live slots
name the page.
-/

@[expose] public section
noncomputable section
namespace Cert.Attention

open Idealize.ShloMosaic Cert.KernelIdeal Cert.KernelIdeal.Gen Cert.KernelIdeal.Exchange
open Idealize.ShloMosaic.Pointwise

/-! ## The constants -/

/-- The named mask is `-∞`. -/
theorem mask_eq : (Named.named (F := Ideal) κ (φ := .f32) "mask" 4048155338#32) = (⊥ : EReal) :=
  IdealRules.named_const.ideal_named_scalar _ _ _ _ rfl

/-- The named scale is `1 / √128`. -/
theorem scale_eq : (Named.named (F := Ideal) κ (φ := .bf16) "scale" 15797#16) = (((Real.sqrt 128)⁻¹ : ℝ) : EReal) :=
  IdealRules.named_const.ideal_named_scalar _ _ _ _ rfl

/-- The maximum's starting value is `-∞`. -/
theorem low_eq : Ideal.ofBits .f32 4286578688#32 = (⊥ : EReal) := by simp [Ideal.ofBits, Ideal.ieee]

/-- A maximum that starts from `-∞` is the supremum. -/
theorem fold_max_eq {ι : Type} [Fintype ι] (f : ι → EReal) :
    Finset.fold max (Ideal.ofBits .f32 4286578688#32) f Finset.univ = Finset.univ.sup f := by
  rw [low_eq]; rfl

/-! ## The penalty -/

/-- The printed remainder, corrected for sign, of a small natural is its remainder. -/
theorem floor_rem (n : ℕ) (hn : n < 8192) :
    Scalar.select (IntOp.andi (IntOp.xori (IntOp.cmpi .slt (IntOp.remsi .vector (BitVec.ofNat 32 n) 8#32) 0#32) 0#1) (IntOp.cmpi .ne (IntOp.remsi .vector (BitVec.ofNat 32 n) 8#32) 0#32)) (IntOp.addi (IntOp.remsi .vector (BitVec.ofNat 32 n) 8#32) 8#32) (IntOp.remsi .vector (BitVec.ofNat 32 n) 8#32)
     = BitVec.ofNat 32 (n % 8) := by
  rw [Routing.remsi_word .vector (show n < 2 ^ 31 by omega) (show 0 < 8 by decide) (by decide)]
  have : n % 8 < 8 := Nat.mod_lt _ (by decide)
  generalize n % 8 = k at *
  revert k
  decide

/-- Equality of two words, as a bit. -/
theorem cmpi_eq_one (x y : BitVec 32) : IntOp.cmpi .eq x y = 1#1 ↔ x = y := by
  show BitVec.ofBool (x == y) = 1#1 ↔ x = y
  by_cases h : x = y
  · simp [h]
  · simp [h, beq_eq_false_iff_ne.2 h]

/-- The penalty is nothing where row and column have one head, `-∞` elsewhere. -/
theorem pen_apply (r : Fin 64) (j : Fin 8192) :
    pen (F := Ideal) (ix2 r j) = if r.val % 8 = j.val % 8 then (0 : EReal) else ⊥ := by
  pointwise [pen, k0_pay15, k0_pay7, k0_pay8, k0_pay9, k0_pay10]
  rw [mask_eq, show Scalar.select (Scalar.cmpi .eq 8#32 0#32) 1#32 8#32 = 8#32 by decide, show Scalar.cmpi .slt 8#32 0#32 = 0#1 by decide,
    floor_rem _ (by omega), floor_rem _ j.isLt]
  show (if _ then _ else _) = _
  refine if_congr ((cmpi_eq_one _ _).trans ⟨fun h => ?_, fun h => by rw [h]⟩) rfl rfl
  have := congrArg BitVec.toNat h
  simp only [BitVec.toNat_ofNat] at this
  omega

/-! ## How often a page is named -/

/-- The device's coordinate, as it is printed, is the device's number. -/
theorem device_word (c : Dev nD) : Scalar.remsi (Scalar.divsi (Dev.word c) 1#32) 4#32 = BitVec.ofNat 32 c.val := by
  revert c; decide

/-- The number of a page, as it is printed. -/
theorem page_word (c : Dev nD) (t p : ℕ) :
    IntOp.addi (Scalar.addi (Scalar.muli (BitVec.ofNat 32 c.val) 512#32) (Scalar.muli (BitVec.ofNat 32 t) 64#32)) (BitVec.ofNat 32 p) = BitVec.ofNat 32 (c.val * 512 + t * 64 + p) := by
  simp only [BitVec.ofNat_add, BitVec.ofNat_mul]
  rfl

/-- A slot of a query's block table is live: it is below the query's length. -/
def live (ln : Vec Ideal S8 .i32) (b : Fin 8) (x : Fin 512) : Prop := IntOp.cmpi .slt (BitVec.ofNat 32 x.val) (ln (ix1 b)) = 1#1

instance (ln : Vec Ideal S8 .i32) (b : Fin 8) (x : Fin 512) : Decidable (live ln b x) := inferInstanceAs (Decidable (_ = _))

/-- How many of a query's live slots name the page. -/
def count (bt : Vec Ideal S8x512 .i32) (ln : Vec Ideal S8 .i32) (b : Fin 8) (g : ℕ) : ℕ :=
  (Finset.univ.filter fun x : Fin 512 => bt (ix2 b x) = BitVec.ofNat 32 g ∧ live ln b x).card

/-- The conjunction of two bits. -/
theorem andi_one (x y : BitVec 1) : IntOp.andi x y = 1#1 ↔ x = 1#1 ∧ y = 1#1 := by
  revert x y; decide

/-- The logarithm of the count of a column's page, `-∞` where no live slot names it. -/
theorem log_count_apply (i : grid0.Coords) (c : Dev nD) (bt : Vec Ideal S8x512 .i32) (ln : Vec Ideal S8 .i32) (b : Fin 8) (u : Fin 1) (j : Fin 8192) :
    k0_pay16 (F := Ideal) i c bt ln (ix3 b u j) =
      if count bt ln b (c.val * 512 + (i 0).val * 64 + j.val / 128) = 0 then (⊥ : EReal)
      else ((Real.log (count bt ln b (c.val * 512 + (i 0).val * 64 + j.val / 128)) : ℝ) : EReal) := by
  pointwise [k0_pay16]
  rw [device_word, page_word, IndicatorCount.fold_addi_setWidth_eq_card, mask_eq]
  have hc : (Finset.univ.filter fun x : Fin 512 => IntOp.andi (IntOp.cmpi .eq (bt (ix2 b x)) (BitVec.ofNat 32 (c.val * 512 + (i 0).val * 64 + j.val / 128))) (IntOp.cmpi .slt (BitVec.ofNat 32 x.val) (ln (ix1 b))) = 1#1).card
      = count bt ln b (c.val * 512 + (i 0).val * 64 + j.val / 128) := by
    simp only [andi_one, cmpi_eq_one]; rfl
  rw [hc]
  have hle : count bt ln b (c.val * 512 + (i 0).val * 64 + j.val / 128) ≤ 512 := (Finset.card_le_univ _).trans (by simp)
  generalize count bt ln b (c.val * 512 + (i 0).val * 64 + j.val / 128) = n at *
  have hn : FloatOps.sitofp (F := Ideal) .f32 (BitVec.ofNat 32 n) = (((n : ℝ)) : EReal) := by
    show (((BitVec.ofNat 32 n).toInt : ℝ) : EReal) = _
    rw [show (BitVec.ofNat 32 n).toInt = n from by rw [BitVec.toInt_ofNat']; rw [Int.bmod_eq_of_le] <;> omega]
    simp
  rw [hn]
  rcases Nat.eq_zero_or_pos n with rfl | h
  · simp
  · have h1 : (1 : ℝ) ≤ n := by exact_mod_cast h
    rw [if_pos (by exact_mod_cast h), if_neg h.ne', max_eq_left (by exact_mod_cast h1)]
    show (if (n : ℝ) ≤ 0 then (⊥ : EReal) else ((Real.log n : ℝ) : EReal)) = _
    rw [if_neg (by linarith)]

/-! ## One iteration -/

/-- The query's row, as an index of the queries. -/
abbrev rowQ (r : Fin 64) : Fin 8 := ⟨r.val / 8, by omega⟩
/-- The head of a row. -/
abbrev rowH (r : Fin 64) : Fin 8 := ⟨r.val % 8, by omega⟩
/-- The page of a column, among the iteration's 64. -/
abbrev colP (j : Fin 8192) : Fin 64 := ⟨j.val / 128, by omega⟩
/-- The token of a column. -/
abbrev colT (j : Fin 8192) : Fin 16 := ⟨j.val / 8 % 16, by omega⟩
/-- The head of a column. -/
abbrev colH (j : Fin 8192) : Fin 8 := ⟨j.val % 8, by omega⟩

/-- The scaled product of a query with a key, both finite. -/
def product (q : Vec Ideal S8x1x8x128 .bf16) (k : Vec Ideal S64x16x8x128 .bf16) (r : Fin 64) (j : Fin 8192) : ℝ :=
  ∑ e : Fin 128, (q (ix4 (rowQ r) 0 (rowH r) e)).toReal * (Real.sqrt 128)⁻¹ * (k (ix4 (colP j) (colT j) (colH j) e)).toReal

/-- The kernel's score of a column, heads apart included, is the product weighed by the count. -/
theorem score_apply (lc : FVec Ideal S8x1x8192 .f32) (q : Vec Ideal S8x1x8x128 .bf16) (k : Vec Ideal S64x16x8x128 .bf16)
    (hq : ∀ i, q i = ((q i).toReal : EReal)) (hk : ∀ i, k i = ((k i).toReal : EReal)) (r : Fin 64) (j : Fin 8192) (n : ℕ)
    (hn : lc (ix3 (rowQ r) 0 j) = if n = 0 then (⊥ : EReal) else ((Real.log n : ℝ) : EReal)) :
    k0_pay17 (F := Ideal) lc q k pen (ix2 r j) = score (product q k r j) (if r.val % 8 = j.val % 8 then n else 0) := by
  have h : k0_pay17 (F := Ideal) lc q k pen (ix2 r j)
      = (∑ e : Fin 128, q (ix4 (rowQ r) 0 (rowH r) e) * Named.named (F := Ideal) κ (φ := .bf16) "scale" 15797#16 * k (ix4 (colP j) (colT j) (colH j) e))
        + lc (ix3 (rowQ r) 0 j) + pen (F := Ideal) (ix2 r j) := by
    pointwise [k0_pay17]
  rw [h, hn, scale_eq, pen_apply]
  have hs : (∑ e : Fin 128, q (ix4 (rowQ r) 0 (rowH r) e) * (((Real.sqrt 128)⁻¹ : ℝ) : EReal) * k (ix4 (colP j) (colT j) (colH j) e)) = (product q k r j : EReal) := by
    unfold product
    rw [coe_sum]
    refine Finset.sum_congr rfl fun e _ => ?_
    rw [EReal.coe_mul, EReal.coe_mul, ← hq, ← hk]
  rw [hs]
  unfold score
  by_cases hr : r.val % 8 = j.val % 8 <;> by_cases h0 : n = 0 <;> simp [hr, h0, EReal.coe_add]

section Step
variable (lc : FVec Ideal S8x1x8192 .f32) (q : Vec Ideal S8x1x8x128 .bf16) (k v : Vec Ideal S64x16x8x128 .bf16) (s : Triple Ideal) (r : Fin 64)

/-- The new maximum of a row. -/
theorem step_m : (step lc q k v s).m (ix2 r 0) = max (s.m (ix2 r 0)) (Finset.univ.sup fun j => k0_pay17 (F := Ideal) lc q k pen (ix2 r j)) := by
  have h : (step lc q k v s).m (ix2 r 0) = k0_pay18 (F := Ideal) lc q k pen s.m (ix2 r 0) := by
    show k0_pay2 (F := Ideal) (k0_pay18 lc q k pen s.m) (ix2 r 0) = _
    pointwise [k0_pay2]
  rw [h, ← fold_max_eq]
  pointwise [k0_pay18]

/-- The new maximum is the one the iteration computes first. -/
theorem step_m' : k0_pay18 (F := Ideal) lc q k pen s.m (ix2 r 0) = (step lc q k v s).m (ix2 r 0) := by
  show _ = k0_pay2 (F := Ideal) (k0_pay18 lc q k pen s.m) (ix2 r 0)
  pointwise [k0_pay2]

/-- The new sum of a row. -/
theorem step_l : (step lc q k v s).l (ix2 r 0) = s.l (ix2 r 0) * Ideal.exp (s.m (ix2 r 0) - (step lc q k v s).m (ix2 r 0))
    + ∑ j, Ideal.exp (k0_pay17 (F := Ideal) lc q k pen (ix2 r j) - (step lc q k v s).m (ix2 r 0)) := by
  rw [← step_m']
  show k0_pay21 lc q k pen s.m s.l (ix2 r 0) = _
  pointwise [k0_pay21, k0_pay19, k0_pay20]

/-- The new weighted sum of a row. -/
theorem step_a (d : Fin 128) : (step lc q k v s).a (ix2 r d) = s.a (ix2 r d) * Ideal.exp (s.m (ix2 r 0) - (step lc q k v s).m (ix2 r 0))
    + ∑ j, Ideal.exp (k0_pay17 (F := Ideal) lc q k pen (ix2 r j) - (step lc q k v s).m (ix2 r 0)) * v (ix4 (colP j) (colT j) (colH j) d) := by
  rw [← step_m']
  show k0_pay1 (k0_pay19 lc q k pen s.m) (k0_pay22 v) (k0_pay23 lc q k pen s.m) s.a (ix2 r d) = _
  pointwise [k0_pay1, k0_pay19, k0_pay22, k0_pay23, k0_pay20]

end Step

/-- The running maximum starts at `-∞`; -/
theorem init_m (r : Fin 64) : (init (F := Ideal)).m (ix2 r 0) = (⊥ : EReal) := by
  show k0_pay4 (ix2 r 0) = _
  pointwise [k0_pay4]
  exact mask_eq

/-- the sum at nothing; -/
theorem init_l (r : Fin 64) : (init (F := Ideal)).l (ix2 r 0) = (0 : EReal) := by
  show k0_pay5 (ix2 r 0) = _
  pointwise [k0_pay5]

/-- the weighted sum too. -/
theorem init_a (r : Fin 64) (d : Fin 128) : (init (F := Ideal)).a (ix2 r d) = (0 : EReal) := by
  show k0_pay6 (ix2 r d) = _
  pointwise [k0_pay6]

/-! ## What the devices exchange, and the result -/

/-- A row of the result's row and column. -/
abbrev row (b h : Fin 8) : Fin 64 := ⟨b.val * 8 + h.val, by omega⟩

/-- The result is the devices' weighted sums over their sums, each brought to the greatest maximum. -/
theorem merged_apply (WA : Dev nD → Vec Ideal S1x64x128 .f32) (WM : Dev nD → Vec Ideal S1x64x2 .f32) (b h : Fin 8) (u : Fin 1) (d : Fin 128) :
    merged WA WM (ix4 b u h d) =
      Ideal.div (∑ z, WA z (ix3 0 (row b h) d) * Ideal.exp (WM z (ix3 0 (row b h) 0) - Finset.univ.sup fun z => WM z (ix3 0 (row b h) 0)))
        (∑ z, WM z (ix3 0 (row b h) 1) * Ideal.exp (WM z (ix3 0 (row b h) 0) - Finset.univ.sup fun z => WM z (ix3 0 (row b h) 0))) := by
  have hA : ∀ (z : Dev nD) (r : Fin 64) (d : Fin 128), commA WA (ix3 z r d) = WA z (ix3 0 r d) := fun z r d => by
    show WA _ _ = _
    congr 1
    funext i; match i with | 0 => rfl | 1 => rfl | 2 => rfl
  have hM : ∀ (z : Dev nD) (r : Fin 64) (d : Fin 2), commM WM (ix3 z r d) = WM z (ix3 0 r d) := fun z r d => by
    show WM _ _ = _
    congr 1
    funext i; match i with | 0 => rfl | 1 => rfl | 2 => rfl
  have h0 : merged WA WM (ix4 b u h d) = Ideal.div
      (∑ z : Fin 4, commA WA (ix3 z (row b h) d) * Ideal.exp (commM WM (ix3 z (row b h) 0) - Finset.fold max (Ideal.ofBits .f32 4286578688#32) (fun z : Fin 4 => commM WM (ix3 z (row b h) 0)) Finset.univ))
      (∑ z : Fin 4, commM WM (ix3 z (row b h) 1) * Ideal.exp (commM WM (ix3 z (row b h) 0) - Finset.fold max (Ideal.ofBits .f32 4286578688#32) (fun z : Fin 4 => commM WM (ix3 z (row b h) 0)) Finset.univ)) := by
    show k0_pay3 (k0_pay13 (commM WM)) (k0_pay14 (commM WM)) (commA WA) (ix4 b u h d) = _
    pointwise [k0_pay3, k0_pay13, k0_pay14]
  rw [h0, fold_max_eq]
  simp only [hA, hM]

/-- A device sends its weighted sums as they are, -/
theorem sent_a (a : Vec Ideal S64x128 .f32) (r : Fin 64) (d : Fin 128) : k0_pay11 (F := Ideal) a (ix3 0 r d) = a (ix2 r d) := by
  pointwise [k0_pay11]

/-- its maximum first -/
theorem sent_m (x y : Vec Ideal S64x1 .f32) (r : Fin 64) : k0_pay12 (F := Ideal) x y (ix3 0 r 0) = x (ix2 r 0) := by
  pointwise [k0_pay12]

/-- and its sum second. -/
theorem sent_l (x y : Vec Ideal S64x1 .f32) (r : Fin 64) : k0_pay12 (F := Ideal) x y (ix3 0 r 1) = y (ix2 r 0) := by
  pointwise [k0_pay12]

end Cert.Attention
end
-- ==== Proof.Whole.lean ====
module

public import proofs.«01_k».proof.Proof.Gen.ReferenceIdeal.Run
public import proofs.«01_k».proof.Proof.Reading

/-!
# The reference's value

The reference gathers the pages a query's slots name, scores every token of them, puts minus infinity
where the slot is not live, takes the softmax and applies it to the gathered values.
-/

@[expose] public section
noncomputable section
namespace Cert.Attention

open Idealize.ShloMosaic Cert.ReferenceIdeal Cert.ReferenceIdeal.Gen
open Idealize.ShloMosaic.Pointwise

/-! ## Its stages -/

/-- The pages a query's slots name, one after another. -/
def gathered (X : Vec Ideal S2048x16x8x128 .bf16) (bt : Vec Ideal S8x512 .i32) : FVec Ideal S8x8192x8x128 .f32 :=
  shapeCast S8x8192x8x128 (Host.gather gather_S2048x16x8x128_S8x512x1_S8x512x16x8x128_234_0_n_n_0_2_1168128 (extf (F := Ideal) .f32 X bitsLt_bf16_f32) (broadcastInDim S8x512x1 ![0, 1] bcast_S8x512_S8x512x1_0_1 bt)) shapeCasts_S8x512x16x8x128_S8x8192x8x128

/-- The scores, minus infinity where the slot is not live. -/
def scores (Q : Vec Ideal S8x1x8x128 .bf16) (G : FVec Ideal S8x8192x8x128 .f32) (ln : Vec Ideal S8 .i32) : FVec Ideal S8x8x1x8192 .f32 :=
  select (broadcastInDim S8x8x1x8192 ![0, 1, 2, 3] bcast_S8x1x1x8192_S8x8x1x8192_0_1_2_3 (shapeCast S8x1x1x8192 (cmpi .slt (iotaInDim S8x512x16 32 1) (broadcastInDim S8x512x16 ![0, 1, 2] bcast_S8x1x1_S8x512x16_0_1_2 (broadcastInDim S8x1x1 ![0] bcast_S8_S8x1x1_0 ln))) shapeCasts_S8x512x16_S8x1x1x8192))
    (mulf (Host.dotGeneral dot_S8x1x8x128_S8x8192x8x128_S8x8x1x8192_3_3_1_1_02_02 none (extf (F := Ideal) .f32 Q bitsLt_bf16_f32) G) (broadcastInDim S8x8x1x8192 ![] bcast_S_S8x8x1x8192 (Host.rsqrt (constant (F := Ideal) S_ .f32 0x43000000#32))))
    (broadcastInDim S8x8x1x8192 ![] bcast_S_S8x8x1x8192 (id (constant (F := Ideal) S_ .f32 0xFF800000#32)))

/-- The softmax's numerators. -/
def numerators (S : FVec Ideal S8x8x1x8192 .f32) : FVec Ideal S8x8x1x8192 .f32 :=
  Host.exp (subf S (broadcastInDim S8x8x1x8192 ![0, 1, 2, 3] bcast_S8x8x1x1_S8x8x1x8192_0_1_2_3 (broadcastInDim S8x8x1x1 ![0, 1, 2] bcast_S8x8x1_S8x8x1x1_0_1_2 (Host.reduce FloatOps.maximumf S (constant (F := Ideal) S_ .f32 0xFF800000#32) reducesTo_S8x8x1x8192_S8x8x1_d3 h_S_))))

/-- The softmax. -/
def weights (N : FVec Ideal S8x8x1x8192 .f32) : FVec Ideal S8x8x1x8192 .f32 :=
  Host.divf N (broadcastInDim S8x8x1x8192 ![0, 1, 2, 3] bcast_S8x8x1x1_S8x8x1x8192_0_1_2_3 (broadcastInDim S8x8x1x1 ![0, 1, 2] bcast_S8x8x1_S8x8x1x1_0_1_2 (Host.reduceAdd N (constant (F := Ideal) S_ .f32 0x00000000#32) reducesTo_S8x8x1x8192_S8x8x1_d3 h_S_)))

/-- The softmax applied to the values. -/
def applied (G : FVec Ideal S8x8192x8x128 .f32) (W : FVec Ideal S8x8x1x8192 .f32) : FVec Ideal S8x1x8x128 .f32 :=
  transpose S8x1x8x128 [0, 3, 1, 2] (Host.dotGeneral (F := Ideal) dot_S8x8192x8x128_S8x8x1x8192_S8x8x128x1_1_3_3_2_02_01 none G W) transposes_S8x8x128x1_S8x1x8x128_0_3_1_2

/-- The reference's result is its stages one after another. -/
theorem staged (m : (ℓ : Loc nD τ sig) → Buf (Elt Ideal) ℓ) (c : Dev nD) :
    Value.res_main_v27 (F := Ideal) m c = applied (gathered (m ((c.tc : Thread nD τ).loc main_arg2)) (m ((c.tc : Thread nD τ).loc main_arg3)))
      (weights (numerators (scores (m ((c.tc : Thread nD τ).loc main_arg0)) (gathered (m ((c.tc : Thread nD τ).loc main_arg1)) (m ((c.tc : Thread nD τ).loc main_arg3))) (m ((c.tc : Thread nD τ).loc main_arg4))))) := rfl

/-! ## Each at an index -/

/-- The slot of an entry of the gathered pages. -/
abbrev slot (i : Fin 8192) : Fin 512 := ⟨i.val / 16, by omega⟩
/-- The token of an entry of the gathered pages. -/
abbrev token (i : Fin 8192) : Fin 16 := ⟨i.val % 16, by omega⟩

/-- The page a slot names, brought into range. -/
def named (bt : Vec Ideal S8x512 .i32) (b : Fin 8) (x : Fin 512) : Fin 2048 := ⟨min (bt (ix2 b x)).toInt.toNat 2047, by omega⟩

/-- On an axis of the page the gather reads the result's own coordinate. -/
theorem kept_coord {s si t : Shape} {w : ℕ} (D : GatherDims s si t) (j : t.Idx) (idx : IVec si w) (a : Fin s.rank)
    (hm : a ∉ D.startIndexMap) (hb : a ∉ D.operandBatchingDims) : (D.operandIdx j idx a).val = D.offCoord j a := by
  show D.start j idx a + D.batchCoord j a + D.offCoord j a = _
  unfold GatherDims.start
  rw [dif_neg hm, GatherDims.batchCoord_eq_zero _ _ _ hb]
  omega

/-- The gather reads the page its index names, brought into range. -/
theorem gather_apply {α : Type} (x : S2048x16x8x128.Idx → α) (idx : IVec S8x512x1 32) (b : Fin 8) (s : Fin 512) (k : Fin 16) (h : Fin 8) (d : Fin 128) :
    Host.gather gather_S2048x16x8x128_S8x512x1_S8x512x16x8x128_234_0_n_n_0_2_1168128 x idx (ix5 b s k h d)
      = x (ix4 ⟨min (idx (ix3 b s 0)).toInt.toNat 2047, by omega⟩ k h d) := by
  unfold Host.gather
  congr 1
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg₂ min (congrArg (fun j => (idx j).toInt.toNat) ?_) rfl
    funext e; refine Fin.ext ?_
    match e with
    | ⟨0, _⟩ => rfl
    | ⟨1, _⟩ => rfl
    | ⟨2, _⟩ => rfl
  | ⟨1, _⟩ => exact kept_coord _ _ _ 1 (by decide) (by decide)
  | ⟨2, _⟩ => exact kept_coord _ _ _ 2 (by decide) (by decide)
  | ⟨3, _⟩ => exact kept_coord _ _ _ 3 (by decide) (by decide)

/-- The gathered pages at an index. -/
theorem gathered_apply (X : Vec Ideal S2048x16x8x128 .bf16) (bt : Vec Ideal S8x512 .i32) (b : Fin 8) (i : Fin 8192) (h : Fin 8) (d : Fin 128) :
    gathered X bt (ix4 b i h d) = X (ix4 (named bt b (slot i)) (token i) h d) := by
  pointwise [gathered]
  rw [gather_apply]
  pointwise [named]

/-- The constant the reference takes the root of is `128`. -/
theorem width_eq : Ideal.rsqrt (Ideal.ofBits .f32 1124073472#32) = (((Real.sqrt 128)⁻¹ : ℝ) : EReal) := by
  have h : Ideal.ofBits .f32 1124073472#32 = ((128 : ℝ) : EReal) := by
    simp [Ideal.ofBits, Ideal.ieee, -EReal.coe_mul]; norm_num
  rw [h]
  show (if _ then _ else _) = _
  norm_num

/-- The product of a query with a token of a page, scaled, both finite. -/
def prod (Q : Vec Ideal S8x1x8x128 .bf16) (K : Vec Ideal S2048x16x8x128 .bf16) (b h : Fin 8) (g : Fin 2048) (k : Fin 16) : ℝ :=
  ∑ e : Fin 128, (Q (ix4 b 0 h e)).toReal * (Real.sqrt 128)⁻¹ * (K (ix4 g k h e)).toReal

/-- The reference's masked score of one sequence, head, slot and row of its page. -/
theorem scores_apply (Q : Vec Ideal S8x1x8x128 .bf16) (K : Vec Ideal S2048x16x8x128 .bf16) (bt : Vec Ideal S8x512 .i32) (ln : Vec Ideal S8 .i32)
    (hq : ∀ i, Q i = ((Q i).toReal : EReal)) (hk : ∀ i, K i = ((K i).toReal : EReal)) (b h : Fin 8) (i : Fin 8192) :
    scores Q (gathered K bt) ln (ix4 b h 0 i) = if live ln b (slot i) then (prod Q K b h (named bt b (slot i)) (token i) : EReal) else ⊥ := by
  have h0 : scores Q (gathered K bt) ln (ix4 b h 0 i) = Scalar.select (IntOp.cmpi .slt (BitVec.ofNat 32 (i.val / 16)) (ln (ix1 b)))
      ((∑ e, Q (ix4 b 0 h e) * gathered K bt (ix4 b i h e)) * Ideal.rsqrt (Ideal.ofBits .f32 1124073472#32))
      (Ideal.ofBits .f32 4286578688#32) := by
    pointwise [scores]
    rfl
  rw [h0, width_eq, low_eq]
  show (if live ln b (slot i) then _ else _) = _
  refine if_congr Iff.rfl ?_ rfl
  unfold prod
  have h1 : (∑ e : Fin 128, (Q (ix4 b 0 h e)).toReal * (Real.sqrt 128)⁻¹ * (K (ix4 (named bt b (slot i)) (token i) h e)).toReal)
      = (∑ e : Fin 128, (Q (ix4 b 0 h e)).toReal * (K (ix4 (named bt b (slot i)) (token i) h e)).toReal) * (Real.sqrt 128)⁻¹ := by
    rw [Finset.sum_mul]; exact Finset.sum_congr rfl fun e _ => by ring
  rw [h1, EReal.coe_mul, coe_sum]
  congr 1
  refine Finset.sum_congr rfl fun e _ => ?_
  rw [gathered_apply, EReal.coe_mul, ← hq, ← hk]

/-- The reference's result at an index: the live entries' exponentials over their sum, applied to the values. -/
theorem reference_apply (Q : Vec Ideal S8x1x8x128 .bf16) (K V : Vec Ideal S2048x16x8x128 .bf16) (bt : Vec Ideal S8x512 .i32) (ln : Vec Ideal S8 .i32)
    (hq : ∀ i, Q i = ((Q i).toReal : EReal)) (hk : ∀ i, K i = ((K i).toReal : EReal)) (b h : Fin 8) (hne : ∃ x, live ln b x) (u : Fin 1) (d : Fin 128) :
    applied (gathered V bt) (weights (numerators (scores Q (gathered K bt) ln))) (ix4 b u h d)
      = ∑ i : Fin 8192, (((if live ln b (slot i) then Real.exp (prod Q K b h (named bt b (slot i)) (token i)) else 0)
          / ∑ i : Fin 8192, (if live ln b (slot i) then Real.exp (prod Q K b h (named bt b (slot i)) (token i)) else 0) : ℝ) : EReal)
          * V (ix4 (named bt b (slot i)) (token i) h d) := by
  obtain ⟨x, hx⟩ := hne
  rw [← softmax (fun i => live ln b (slot i)) (fun i => prod Q K b h (named bt b (slot i)) (token i)) _
    ⟨⟨x.val * 16, by omega⟩, by convert hx using 2; simp [slot]⟩ rfl]
  have ha : applied (gathered V bt) (weights (numerators (scores Q (gathered K bt) ln))) (ix4 b u h d)
      = ∑ i, gathered V bt (ix4 b i h d) * weights (numerators (scores Q (gathered K bt) ln)) (ix4 b h 0 i) := by
    pointwise [applied]
  have hw : ∀ N : FVec Ideal S8x8x1x8192 .f32, ∀ i, weights N (ix4 b h 0 i) = Ideal.div (N (ix4 b h 0 i)) (∑ i, N (ix4 b h 0 i)) := fun N i => by
    pointwise [weights]
  have hn : ∀ (S : FVec Ideal S8x8x1x8192 .f32) i, numerators S (ix4 b h 0 i) = Ideal.exp (S (ix4 b h 0 i) - Finset.fold max (Ideal.ofBits .f32 4286578688#32) (fun i => S (ix4 b h 0 i)) Finset.univ) := fun S i => by
    pointwise [numerators]
  rw [ha]
  refine Finset.sum_congr rfl fun i _ => ?_
  rw [hw, mul_comm, gathered_apply]
  simp only [hn, fold_max_eq, scores_apply Q K bt ln hq hk]

end Cert.Attention
end
-- ==== Proof.Devices.lean ====
module

public import proofs.«01_k».proof.Proof.Whole

/-!
# The kernel's value

Device `z` holds 512 of the 2048 pages and takes them in eight iterations of 64. After all of them its
running triple is the summary of its own pages, and the four summaries merge into the whole softmax.
-/

@[expose] public section
noncomputable section
namespace Cert.Attention

open Idealize.ShloMosaic Cert.KernelIdeal Cert.KernelIdeal.Gen Cert.KernelIdeal.Exchange
open Idealize.ShloMosaic.Pointwise

/-- All the pages. -/
abbrev Pages : Type := Vec Ideal ⟨4, ![2048, 16, 8, 128]⟩ .bf16

/-- What the devices hold at the start: their share of the pages, and everything else alike. -/
structure Holds (m : (l : Loc nD τ sig) → Buf (Elt Ideal) l) (Q : Vec Ideal S8x1x8x128 .bf16) (K V : Pages)
    (bt : Vec Ideal S8x512 .i32) (ln : Vec Ideal S8 .i32) : Prop where
  queries : ∀ c : Dev nD, m ((c.tc : Thread nD τ).loc main_arg0) = Q
  keys : ∀ c : Dev nD, m ((c.tc : Thread nD τ).loc main_arg1) = Layout.block ⟨4, ![512, 16, 8, 128]⟩ ⟨4, ![2048, 16, 8, 128]⟩ 0 4 c K
  values : ∀ c : Dev nD, m ((c.tc : Thread nD τ).loc main_arg2) = Layout.block ⟨4, ![512, 16, 8, 128]⟩ ⟨4, ![2048, 16, 8, 128]⟩ 0 4 c V
  table : ∀ c : Dev nD, m ((c.tc : Thread nD τ).loc main_arg3) = bt
  lengths : ∀ c : Dev nD, m ((c.tc : Thread nD τ).loc main_arg4) = ln

/-- The grid's point of an iteration. -/
abbrev pt (t : Fin 8) : Fin cfg0.N := ⟨t.val, by rw [show cfg0.N = 8 from N_0]; exact t.isLt⟩

/-- The number of a page among all: the device, its iteration, and the page in it. -/
abbrev page (z : Fin 4) (t : Fin 8) (p : Fin 64) : Fin 2048 := ⟨z.val * 512 + t.val * 64 + p.val, by omega⟩

/-! ## The blocks an iteration reads -/

/-- The iteration of a point. -/
theorem coords_pt (t : Fin 8) : ((grid0.coords (pt t)) 0).val = t.val := by revert t; decide

/-- Every step reads the queries whole. -/
theorem index_0 (t : Fin 8) : win0_0.index (pt t) = ![0, 0, 0, 0] := by revert t; decide
/-- A step reads the block of keys with its number. -/
theorem index_1 (t : Fin 8) : win0_1.index (pt t) = ![t.val, 0, 0, 0] := by revert t; decide
/-- A step reads the block of values with its number. -/
theorem index_2 (t : Fin 8) : win0_2.index (pt t) = ![t.val, 0, 0, 0] := by revert t; decide
/-- Every step reads the page table whole. -/
theorem index_3 (t : Fin 8) : win0_3.index (pt t) = ![0, 0] := by revert t; decide
/-- Every step reads the lengths whole. -/
theorem index_4 (t : Fin 8) : win0_4.index (pt t) = ![0] := by revert t; decide

/-- A device's share of the pages, at an index. -/
theorem share_apply (X : Pages) (c : Fin 4) (g : Fin 512) (k : Fin 16) (h : Fin 8) (d : Fin 128) :
    Layout.block ⟨4, ![512, 16, 8, 128]⟩ ⟨4, ![2048, 16, 8, 128]⟩ 0 4 c X (by decide) (ix4 g k h d)
      = X (ix4 ⟨c.val * 512 + g.val, by omega⟩ k h d) := by
  rw [Layout.block_apply]
  congr 1
  funext a
  match a with
  | ⟨0, _⟩ => rfl
  | ⟨1, _⟩ => rfl
  | ⟨2, _⟩ => rfl
  | ⟨3, _⟩ => rfl

section
variable {m : (l : Loc nD τ sig) → Buf (Elt Ideal) l} {Q : Vec Ideal S8x1x8x128 .bf16} {K V : Pages}
  {bt : Vec Ideal S8x512 .i32} {ln : Vec Ideal S8 .i32} (H : Holds m Q K V bt ln)
include H

/-- Every iteration reads all the queries, -/
theorem block_q (c : Dev nD) (t : Fin 8) : iblk m c 0 (pt t) = Q := by
  rw [← H.queries c]
  funext i
  blk_ext [iblk, index_0 t]

/-- its own 64 pages of keys -/
theorem block_k (c : Dev nD) (t : Fin 8) (p : Fin 64) (k : Fin 16) (h : Fin 8) (d : Fin 128) :
    iblk m c 1 (pt t) (ix4 p k h d) = K (ix4 (page c t p) k h d) := by
  have h1 : iblk m c 1 (pt t) (ix4 p k h d) = m ((c.tc : Thread nD τ).loc main_arg1) (ix4 (⟨t.val * 64 + p.val, by omega⟩ : Fin 512) k h d) := by
    blk_ext [iblk, index_1 t]
  rw [h1, H.keys c, share_apply]
  congr 2
  exact Fin.ext (by show c.val * 512 + (t.val * 64 + p.val) = c.val * 512 + t.val * 64 + p.val; omega)

/-- and of values, -/
theorem block_v (c : Dev nD) (t : Fin 8) (p : Fin 64) (k : Fin 16) (h : Fin 8) (d : Fin 128) :
    iblk m c 2 (pt t) (ix4 p k h d) = V (ix4 (page c t p) k h d) := by
  have h1 : iblk m c 2 (pt t) (ix4 p k h d) = m ((c.tc : Thread nD τ).loc main_arg2) (ix4 (⟨t.val * 64 + p.val, by omega⟩ : Fin 512) k h d) := by
    blk_ext [iblk, index_2 t]
  rw [h1, H.values c, share_apply]
  congr 2
  exact Fin.ext (by show c.val * 512 + (t.val * 64 + p.val) = c.val * 512 + t.val * 64 + p.val; omega)

/-- the whole block table -/
theorem block_table (c : Dev nD) (t : Fin 8) : iblk m c 3 (pt t) = bt := by
  rw [← H.table c]
  funext i
  blk_ext [iblk, index_3 t]

/-- and all the lengths. -/
theorem block_lengths (c : Dev nD) (t : Fin 8) : iblk m c 4 (pt t) = ln := by
  rw [← H.lengths c]
  funext i
  blk_ext [iblk, index_4 t]

end

/-! ## What an iteration folds in -/

/-- The product behind a column's score in an iteration of a device. -/
def colX (Q : Vec Ideal S8x1x8x128 .bf16) (K : Pages) (r : Fin 64) (z : Fin 4) (t : Fin 8) (j : Fin 8192) : ℝ :=
  ∑ e : Fin 128, (Q (ix4 (rowQ r) 0 (rowH r) e)).toReal * (Real.sqrt 128)⁻¹ * (K (ix4 (page z t (colP j)) (colT j) (colH j) e)).toReal

/-- How often the column counts. -/
def colN (bt : Vec Ideal S8x512 .i32) (ln : Vec Ideal S8 .i32) (r : Fin 64) (z : Fin 4) (t : Fin 8) (j : Fin 8192) : ℕ :=
  if r.val % 8 = j.val % 8 then count bt ln (rowQ r) (page z t (colP j)).val else 0

/-- The value of the column. -/
def colV (V : Pages) (d : Fin 128) (z : Fin 4) (t : Fin 8) (j : Fin 8192) : EReal := V (ix4 (page z t (colP j)) (colT j) (colH j) d)

section
variable {m : (l : Loc nD τ sig) → Buf (Elt Ideal) l} {Q : Vec Ideal S8x1x8x128 .bf16} {K V : Pages}
  {bt : Vec Ideal S8x512 .i32} {ln : Vec Ideal S8 .i32} (H : Holds m Q K V bt ln)
  (hq : ∀ i, Q i = ((Q i).toReal : EReal)) (hk : ∀ i, K i = ((K i).toReal : EReal))
include H hq hk

/-- The scores an iteration computes. -/
theorem iteration_score (c : Dev nD) (t : Fin 8) (r : Fin 64) (j : Fin 8192) :
    k0_pay17 (F := Ideal) (k0_pay16 (grid0.coords (pt t)) c (iblk m c 3 (pt t)) (iblk m c 4 (pt t))) (iblk m c 0 (pt t)) (iblk m c 1 (pt t)) pen (ix2 r j)
      = score (colX Q K r c t j) (colN bt ln r c t j) := by
  rw [block_table H c t, block_lengths H c t, block_q H c t]
  rw [score_apply _ Q (iblk m c 1 (pt t)) hq (fun i => by
      have e : iblk m c 1 (pt t) i = K (ix4 (page c t (i 0)) (i 1) (i 2) (i 3)) :=
        (congrArg (iblk m c 1 (pt t)) (ValueIdx.eq_ix4 (n0 := 64) (n1 := 16) (n2 := 8) (n3 := 128) i)).trans (block_k H c t (i 0) (i 1) (i 2) (i 3))
      rw [e]; exact hk _) r j
    (count bt ln (rowQ r) (page c t (colP j)).val) (by rw [log_count_apply, coords_pt])]
  congr 1
  unfold product colX
  refine Finset.sum_congr rfl fun e _ => ?_
  rw [block_k H c t]

/-- Before iteration `k` a row's triple is the summary of the iterations before it. -/
theorem summary_upto (c : Dev nD) (r : Fin 64) (d : Fin 128) (k : ℕ) (hk8 : k ≤ 8) :
    Summary (Finset.univ.filter fun t : Fin 8 => t.val < k) (colX Q K r c) (colN bt ln r c) (colV V d c)
      ((stAt m c k).m (ix2 r 0)) ((stAt m c k).l (ix2 r 0)) ((stAt m c k).a (ix2 r d)) := by
  induction k with
  | zero =>
    have h0 : (Finset.univ.filter fun t : Fin 8 => t.val < 0) = ∅ := by simp
    rw [h0]
    show Summary _ _ _ _ ((init (F := Ideal)).m (ix2 r 0)) ((init (F := Ideal)).l (ix2 r 0)) ((init (F := Ideal)).a (ix2 r d))
    rw [init_m, init_l, init_a]
    exact Summary.empty
  | succ k ih =>
    have ih := ih (by omega)
    have hT : (Finset.univ.filter fun t : Fin 8 => t.val < k + 1) = insert (⟨k, by omega⟩ : Fin 8) (Finset.univ.filter fun t : Fin 8 => t.val < k) := by
      ext t; simp only [Finset.mem_filter, Finset.mem_univ, true_and, Finset.mem_insert, Fin.ext_iff]; omega
    rw [hT, show stAt m c (k + 1) = upd m c (pt ⟨k, by omega⟩) (stAt m c k) from stAt_succ m c (pt ⟨k, by omega⟩)]
    unfold upd
    have hM : (step (k0_pay16 (grid0.coords (pt ⟨k, by omega⟩)) c (iblk m c 3 (pt ⟨k, by omega⟩)) (iblk m c 4 (pt ⟨k, by omega⟩))) (iblk m c 0 (pt ⟨k, by omega⟩)) (iblk m c 1 (pt ⟨k, by omega⟩)) (iblk m c 2 (pt ⟨k, by omega⟩)) (stAt m c k)).m (ix2 r 0)
        = max ((stAt m c k).m (ix2 r 0)) (Finset.univ.sup fun j => score (colX Q K r c ⟨k, by omega⟩ j) (colN bt ln r c ⟨k, by omega⟩ j)) := by
      rw [step_m]
      simp only [iteration_score H hq hk c ⟨k, by omega⟩ r]
    have := ih.step (t := ⟨k, by omega⟩) (by simp) hM
    rw [step_l, step_a]
    simp only [iteration_score H hq hk c ⟨k, by omega⟩ r]
    convert this using 4 with j
    exact block_v H c _ _ _ _ _

/-- The kernel's result at an index: every device's columns, each with its share of the softmax. -/
theorem result_apply (b h : Fin 8) (u : Fin 1) (d : Fin 128)
    (hne : ∃ z, ∃ t ∈ (Finset.univ : Finset (Fin 8)), ∃ j, colN bt ln (row b h) z t j ≠ 0) :
    result m (ix4 b u h d) = ∑ z, ∑ t, ∑ j,
      (share Finset.univ (colX Q K (row b h)) (colN bt ln (row b h)) z t j : EReal) * colV V d z t j := by
  have hs : ∀ z : Dev nD, Summary Finset.univ (colX Q K (row b h) z) (colN bt ln (row b h) z) (colV V d z)
      ((stAt m z 8).m (ix2 (row b h) 0)) ((stAt m z 8).l (ix2 (row b h) 0)) ((stAt m z 8).a (ix2 (row b h) d)) := fun z => by
    have := summary_upto H hq hk z (row b h) d 8 le_rfl
    rwa [Finset.filter_true_of_mem fun t _ => t.isLt] at this
  rw [show result m = merged (wA m) (wM m) from rfl, merged_apply]
  simp only [wA, wM, sent_a, sent_m, sent_l]
  exact merge hs hne rfl

end
end Cert.Attention
end
-- ==== Proof.Counting.lean ====
module

public import proofs.«01_k».proof.Proof.Devices

/-!
# Pages counted and slots gathered

The kernel visits every page once and counts the live slots that name it; the reference visits every
slot and reads the page it names. The two sums have the same terms.
-/

@[expose] public section
noncomputable section
namespace Cert.Attention

open Idealize.ShloMosaic Cert.KernelIdeal
open Idealize.ShloMosaic.Pointwise

/-- A sum over a product of ranges, one range at a time. -/
theorem sum_split {M : Type} [AddCommMonoid M] (a b c : ℕ) (hc : a * b = c) (f : Fin c → M) (g : Fin a → Fin b → M)
    (hg : ∀ x y (h : x.val * b + y.val < c), f ⟨x.val * b + y.val, h⟩ = g x y) : ∑ i, f i = ∑ x, ∑ y, g x y := by
  subst hc
  rw [← finProdFinEquiv.sum_comp, Fintype.sum_prod_type]
  refine Finset.sum_congr rfl fun x _ => Finset.sum_congr rfl fun y _ => ?_
  rw [← hg x y (by have := (finProdFinEquiv (x, y)).isLt; simpa [finProdFinEquiv, Nat.mul_comm, Nat.add_comm] using this)]
  congr 1
  exact Fin.ext (by simp [finProdFinEquiv, Nat.mul_comm, Nat.add_comm])

/-- In an iteration the columns of a row's head are the tokens of its pages. -/
theorem sum_columns {M : Type} [AddCommMonoid M] (h : Fin 8) (f : Fin 64 → Fin 16 → M) :
    (∑ j : Fin 8192, if h.val = j.val % 8 then f (colP j) (colT j) else 0) = ∑ p, ∑ k, f p k := by
  rw [sum_split 1024 8 8192 rfl _ (fun (x : Fin 1024) (y : Fin 8) => if h = y then f ⟨x.val / 16, by omega⟩ ⟨x.val % 16, by omega⟩ else 0)]
  · simp only [Finset.sum_ite_eq, Finset.mem_univ, if_true]
    refine sum_split 64 16 1024 rfl _ _ fun x y hxy => ?_
    congr 1 <;> refine Fin.ext ?_
    · show (x.val * 16 + y.val) / 16 = x.val; omega
    · show (x.val * 16 + y.val) % 16 = y.val; omega
  · intro x y hxy
    refine if_congr ?_ ?_ rfl
    · rw [Fin.ext_iff]; show h.val = (x.val * 8 + y.val) % 8 ↔ _; omega
    · congr 1 <;> refine Fin.ext ?_
      · show (x.val * 8 + y.val) / 128 = x.val / 16; omega
      · show (x.val * 8 + y.val) / 8 % 16 = x.val % 16; omega

/-- The devices' iterations' pages are all the pages. -/
theorem sum_pages {M : Type} [AddCommMonoid M] (f : Fin 2048 → M) : ∑ z, ∑ t, ∑ p, f (page z t p) = ∑ g, f g := by
  refine (sum_split 4 512 2048 rfl f (fun z x => f ⟨z.val * 512 + x.val, by omega⟩) fun _ _ _ => rfl).trans
    (Finset.sum_congr rfl fun z _ => ?_) |>.symm
  refine sum_split 8 64 512 rfl _ _ fun t p _ => ?_
  congr 1
  exact Fin.ext (by show z.val * 512 + (t.val * 64 + p.val) = z.val * 512 + t.val * 64 + p.val; omega)

/-- The gathered entries are the slots' tokens. -/
theorem sum_slots {M : Type} [AddCommMonoid M] (f : Fin 512 → Fin 16 → M) : (∑ i : Fin 8192, f (slot i) (token i)) = ∑ x, ∑ k, f x k := by
  refine sum_split 512 16 8192 rfl _ _ fun x y _ => ?_
  congr 1 <;> refine Fin.ext ?_
  · show (x.val * 16 + y.val) / 16 = x.val; omega
  · show (x.val * 16 + y.val) % 16 = y.val; omega

section
variable {bt : Vec Ideal S8x512 .i32} {ln : Vec Ideal S8 .i32} {b : Fin 8}

/-- A live slot names a page that is there. -/
def InTable (bt : Vec Ideal S8x512 .i32) (ln : Vec Ideal S8 .i32) (b : Fin 8) : Prop :=
  ∀ x, live ln b x → bt (ix2 b x) = BitVec.ofNat 32 (named bt b x).val

/-- Two pages' numbers are different words. -/
theorem page_inj {g g' : Fin 2048} (h : BitVec.ofNat 32 g.val = BitVec.ofNat 32 g'.val) : g = g' := by
  have := congrArg BitVec.toNat h
  simp only [BitVec.toNat_ofNat] at this
  exact Fin.ext (by omega)

/-- Every page as often as it is named is every live slot's page once. -/
theorem sum_named {M : Type} [AddCommMonoid M] (hb : InTable bt ln b) (f : Fin 2048 → M) :
    ∑ g : Fin 2048, count bt ln b g.val • f g = ∑ x, if live ln b x then f (named bt b x) else 0 := by
  have h : ∀ g : Fin 2048, count bt ln b g.val • f g = ∑ x, if bt (ix2 b x) = BitVec.ofNat 32 g.val ∧ live ln b x then f g else 0 := fun g => by
    rw [← Finset.sum_filter, Finset.sum_const]; rfl
  simp only [h]
  rw [Finset.sum_comm]
  refine Finset.sum_congr rfl fun x _ => ?_
  by_cases hx : live ln b x
  · rw [if_pos hx]
    rw [Finset.sum_eq_single (named bt b x)]
    · rw [if_pos ⟨hb x hx, hx⟩]
    · intro g _ hg
      exact if_neg fun h => hg (page_inj (h.1.symm.trans (hb x hx)))
    · intro h; exact absurd (Finset.mem_univ _) h
  · rw [if_neg hx]
    exact Finset.sum_eq_zero fun g _ => if_neg fun h => hx h.2

/-- The kernel's columns, counted, are the reference's entries. -/
theorem sum_counted {M : Type} [AddCommMonoid M] (hb : InTable bt ln b) (h : Fin 8) (f : Fin 2048 → Fin 16 → M) :
    (∑ z, ∑ t, ∑ j : Fin 8192, if h.val = j.val % 8 then count bt ln b (page z t (colP j)).val • f (page z t (colP j)) (colT j) else 0)
      = ∑ i : Fin 8192, if live ln b (slot i) then f (named bt b (slot i)) (token i) else 0 := by
  have h1 : ∀ (z : Fin 4) (t : Fin 8), (∑ j : Fin 8192, if h.val = j.val % 8 then count bt ln b (page z t (colP j)).val • f (page z t (colP j)) (colT j) else 0)
      = ∑ p, count bt ln b (page z t p).val • ∑ k, f (page z t p) k := fun z t => by
    rw [sum_columns h fun p k => count bt ln b (page z t p).val • f (page z t p) k]
    exact Finset.sum_congr rfl fun p _ => Finset.smul_sum.symm
  simp only [h1]
  rw [sum_pages fun g => count bt ln b g.val • ∑ k, f g k, sum_named hb fun g => ∑ k, f g k,
    sum_slots fun x k => if live ln b x then f (named bt b x) k else 0]
  refine Finset.sum_congr rfl fun x _ => ?_
  by_cases hx : live ln b x <;> simp [hx]

/-- A live slot's page has a column that counts. -/
theorem exists_column (hb : InTable bt ln b) (hne : ∃ x, live ln b x) (h : Fin 8) :
    ∃ z, ∃ t ∈ (Finset.univ : Finset (Fin 8)), ∃ j, colN bt ln (row b h) z t j ≠ 0 := by
  obtain ⟨x, hx⟩ := hne
  obtain ⟨g, hg⟩ : ∃ g, named bt b x = g := ⟨_, rfl⟩
  refine ⟨⟨g.val / 512, by omega⟩, ⟨g.val / 64 % 8, by omega⟩, Finset.mem_univ _, ⟨g.val % 64 * 128 + h.val, by omega⟩, ?_⟩
  have hr : rowQ (row b h) = b := Fin.ext (by show (b.val * 8 + h.val) / 8 = b.val; omega)
  have hp : (page ⟨g.val / 512, by omega⟩ ⟨g.val / 64 % 8, by omega⟩ (colP ⟨g.val % 64 * 128 + h.val, by omega⟩)).val = g.val := by
    show g.val / 512 * 512 + g.val / 64 % 8 * 64 + (g.val % 64 * 128 + h.val) / 128 = g.val
    omega
  unfold colN
  rw [if_pos (by show (b.val * 8 + h.val) % 8 = (g.val % 64 * 128 + h.val) % 8; omega), hr, hp]
  refine (Finset.card_pos.2 ⟨x, ?_⟩).ne'
  exact Finset.mem_filter.2 ⟨Finset.mem_univ _, hg ▸ hb x hx, hx⟩

end

/-- A multiple of a value, in the extended reals. -/
theorem nsmul_value (n : ℕ) (w : ℝ) (y : EReal) : (((n : ℝ) * w : ℝ) : EReal) * y = n • ((w : EReal) * y) := by
  rw [EReal.nsmul_eq_mul, EReal.coe_mul, mul_assoc]; rfl

/-- The kernel's shares applied to the values are the reference's softmax applied to the gathered values. -/
theorem shares_eq {bt : Vec Ideal S8x512 .i32} {ln : Vec Ideal S8 .i32} {b : Fin 8} (hb : InTable bt ln b)
    (Q : Vec Ideal S8x1x8x128 .bf16) (K V : Pages) (h : Fin 8) (d : Fin 128) :
    (∑ z, ∑ t, ∑ j, (share Finset.univ (colX Q K (row b h)) (colN bt ln (row b h)) z t j : EReal) * colV V d z t j)
      = ∑ i : Fin 8192, (((if live ln b (slot i) then Real.exp (prod Q K b h (named bt b (slot i)) (token i)) else 0)
          / ∑ i : Fin 8192, (if live ln b (slot i) then Real.exp (prod Q K b h (named bt b (slot i)) (token i)) else 0) : ℝ) : EReal)
          * V (ix4 (named bt b (slot i)) (token i) h d) := by
  have hQ : rowQ (row b h) = b := Fin.ext (by show (b.val * 8 + h.val) / 8 = b.val; omega)
  have hH : rowH (row b h) = h := Fin.ext (by show (b.val * 8 + h.val) % 8 = h.val; omega)
  have hr : (row b h).val % 8 = h.val := congrArg Fin.val hH
  have hN : ∀ (z : Fin 4) (t : Fin 8) (j : Fin 8192), colN bt ln (row b h) z t j = if h.val = j.val % 8 then count bt ln b (page z t (colP j)).val else 0 := fun z t j => by
    unfold colN; rw [hr, hQ]
  have hX : ∀ (z : Fin 4) (t : Fin 8) (j : Fin 8192), h.val = j.val % 8 → colX Q K (row b h) z t j = prod Q K b h (page z t (colP j)) (colT j) := fun z t j hj => by
    unfold colX prod
    rw [hQ, hH, show colH j = h from Fin.ext hj.symm]
  have hD : (∑ z, ∑ t, ∑ j, (colN bt ln (row b h) z t j : ℝ) * Real.exp (colX Q K (row b h) z t j))
      = ∑ i : Fin 8192, (if live ln b (slot i) then Real.exp (prod Q K b h (named bt b (slot i)) (token i)) else 0) := by
    rw [← sum_counted hb h fun g k => Real.exp (prod Q K b h g k)]
    refine Finset.sum_congr rfl fun z _ => Finset.sum_congr rfl fun t _ => Finset.sum_congr rfl fun j _ => ?_
    rw [hN]
    by_cases hj : h.val = j.val % 8
    · rw [if_pos hj, if_pos hj, hX z t j hj, nsmul_eq_mul]
    · rw [if_neg hj, if_neg hj]; simp
  rw [← hD]
  generalize hDD : (∑ z, ∑ t, ∑ j, (colN bt ln (row b h) z t j : ℝ) * Real.exp (colX Q K (row b h) z t j)) = D
  have hR : ∀ i : Fin 8192, (((if live ln b (slot i) then Real.exp (prod Q K b h (named bt b (slot i)) (token i)) else 0) / D : ℝ) : EReal) * V (ix4 (named bt b (slot i)) (token i) h d)
      = if live ln b (slot i) then ((Real.exp (prod Q K b h (named bt b (slot i)) (token i)) / D : ℝ) : EReal) * V (ix4 (named bt b (slot i)) (token i) h d) else 0 := fun i => by
    by_cases hi : live ln b (slot i) <;> simp [hi]
  simp only [hR]
  rw [← sum_counted hb h fun g k => ((Real.exp (prod Q K b h g k) / D : ℝ) : EReal) * V (ix4 g k h d)]
  refine Finset.sum_congr rfl fun z _ => Finset.sum_congr rfl fun t _ => Finset.sum_congr rfl fun j _ => ?_
  unfold share
  rw [hDD, hN]
  by_cases hj : h.val = j.val % 8
  · rw [if_pos hj, if_pos hj, hX z t j hj, mul_div_assoc, nsmul_value]
    unfold colV
    rw [show colH j = h from Fin.ext hj.symm]
  · rw [if_neg hj, if_neg hj]; simp

end Cert.Attention
end
-- ==== Proof.Frames.lean ====
/-
# The frames, and what the renamed constants preserve
-/
module

public import proofs.«01_k».proof.Defs
public import proofs.«01_k».proof.Proof.Outcome
public import proofs.«01_k».proof.Proof.Printed.Outcome
public import proofs.«01_k».proof.Proof.Gen.ReferenceIdeal
public import proofs.«01_k».proof.Proof.Gen.ReferenceIdeal.Run

@[expose] public section

noncomputable section

namespace Cert.Attention

open Idealize.ShloMosaic Idealize.SL.Sem

/-- The printed kernel ends with its arguments as they were and every semaphore at zero. -/
theorem frame_kernel : Cert.quiescent_Kernel := fun m ρ _ =>
  (θ_run _ _ _).mono (fun _ h => ⟨fun c => (h.1 c).2, h.2⟩) (Cert.Kernel.Exchange.run (F := Bits) m ρ)

/-- So does the kernel read at the extended reals. -/
theorem frame_ideal : Cert.quiescent_KernelIdeal := fun m ρ _ =>
  (θ_run _ _ _).mono (fun _ h => ⟨fun c => (h.1 c).2, h.2⟩) (Cert.KernelIdeal.Exchange.run (F := Ideal) m ρ)

/-- The reference has no semaphore: it ends with its arguments as they were. -/
theorem frame_reference : Cert.quiescent_ReferenceIdeal := fun m ρ _ =>
  (θ_run _ _ _).mono (fun _ h => ⟨fun c => (h c).2, funext fun g => nomatch g.2⟩) (Cert.ReferenceIdeal.Value.run (F := Ideal) m ρ)

/-- The two named constants are what the names say. -/
theorem preserves : Cert.preserves_Kernel_KernelIdeal :=
  ⟨IdealRules.named_const.statement Cert.KernelIdeal.κ "mask" .f32 0xF149F2CA#32 ⊥ rfl,
    IdealRules.named_const.statement Cert.KernelIdeal.κ "scale" .bf16 0x3DB5#16 (((Real.sqrt 128)⁻¹ : ℝ) : EReal) rfl⟩

end Cert.Attention

end
-- ==== Proof.InRange.lean ====
/-
# The frames on inputs in range

`in_range` is stated by predicates over each program's own arguments; the shapes they relate are decided here.
-/
module

public import proofs.«01_k».proof.Proof.Frames

@[expose] public section

noncomputable section

namespace Cert.Attention

open Idealize.ShloMosaic Idealize.SL.Sem

instance rangeFacts : Cert.Pre_in_range_KernelIdeal.Facts where
  bcast_S8_S8x1_0 := by decide
  bcast_S8x1_S8x512_0_1 := by decide
  bcast_S_S8x512 := by decide
  bcast_S_S8 := by decide
  bcast_S_S8x1x8x128 := by decide
  bcast_S_S512x16x8x128 := by decide

instance wholeRangeFacts : Cert.Pre_in_range_ReferenceIdeal.Facts where
  bcast_S8_S8x1_0 := by decide
  bcast_S8x1_S8x512_0_1 := by decide
  bcast_S_S8x512 := by decide
  bcast_S_S8 := by decide
  bcast_S_S8x1x8x128 := by decide
  bcast_S_S2048x16x8x128 := by decide

/-- On inputs in range too the kernel ends with its arguments as they were and every semaphore at zero, -/
theorem frame_ideal_in_range : Cert.quiescent_KernelIdeal_pre_in_range_KernelIdeal := fun m ρ _ =>
  frame_ideal m ρ trivial

/-- and so does the reference. -/
theorem frame_reference_in_range : Cert.quiescent_ReferenceIdeal_pre_in_range_ReferenceIdeal := fun m ρ _ =>
  frame_reference m ρ trivial

end Cert.Attention

end
-- ==== Proof.Algebraic.lean ====
module

public import proofs.«01_k».proof.Proof.Counting
public import proofs.«01_k».proof.Proof.InRange

/-!
# The value claim

On inputs in range the kernel on four devices leaves, on every one of them, what the reference computes of
the whole arrays.
-/

@[expose] public section
noncomputable section
namespace Cert.Attention

open Idealize.ShloMosaic Idealize.SL.Sem
open Idealize.ShloMosaic.Pointwise

/-! ## What the precondition says -/

section Range
variable (Q : FVec Ideal Cert.KernelIdeal.S8x1x8x128 .bf16) (K V : FVec Ideal Cert.KernelIdeal.S512x16x8x128 .bf16) (bt : IVec Cert.KernelIdeal.S8x512 32) (ln : IVec Cert.KernelIdeal.S8 32)

/-- The bit of a slot: it is not live, or it names a page that is there. -/
theorem range_table (b : Fin 8) (x : Fin 512) : (Cert.Pre_in_range_KernelIdeal.fn (F := Ideal) Q K V bt ln).1 (ix2 b x)
    = IntOp.ori (IntOp.cmpi .sge (BitVec.ofNat 32 x.val) (ln (ix1 b))) (IntOp.andi (IntOp.cmpi .sge (bt (ix2 b x)) 0#32) (IntOp.cmpi .slt (bt (ix2 b x)) 2048#32)) := by
  pointwise [Cert.Pre_in_range_KernelIdeal.fn]

/-- The bit of a query: its length is at least one. -/
theorem range_lengths (b : Fin 8) : (Cert.Pre_in_range_KernelIdeal.fn (F := Ideal) Q K V bt ln).2.1 (ix1 b) = IntOp.cmpi .sge (ln (ix1 b)) 1#32 := by
  pointwise [Cert.Pre_in_range_KernelIdeal.fn]

/-- The bit of an entry of the queries: it is finite. -/
theorem range_queries (b : Fin 8) (u : Fin 1) (h : Fin 8) (d : Fin 128) : (Cert.Pre_in_range_KernelIdeal.fn (F := Ideal) Q K V bt ln).2.2.1 (ix4 b u h d)
    = BitVec.ofBool (decide (max (Q (ix4 b u h d)) (-Q (ix4 b u h d)) < Ideal.ofBits .bf16 32640#16)) := by
  pointwise [Cert.Pre_in_range_KernelIdeal.fn]
  rfl

/-- The bit of an entry of the keys: it is finite. -/
theorem range_keys (g : Fin 512) (k : Fin 16) (h : Fin 8) (d : Fin 128) : (Cert.Pre_in_range_KernelIdeal.fn (F := Ideal) Q K V bt ln).2.2.2 (ix4 g k h d)
    = BitVec.ofBool (decide (max (K (ix4 g k h d)) (-K (ix4 g k h d)) < Ideal.ofBits .bf16 32640#16)) := by
  pointwise [Cert.Pre_in_range_KernelIdeal.fn]
  rfl

end Range

/-- A live slot, of a precondition's bits, names a page that is there. -/
theorem in_table_word (w l n : BitVec 32) (h : IntOp.ori (IntOp.cmpi .sge n l) (IntOp.andi (IntOp.cmpi .sge w 0#32) (IntOp.cmpi .slt w 2048#32)) = 1#1)
    (hl : IntOp.cmpi .slt n l = 1#1) : w = BitVec.ofNat 32 (min w.toInt.toNat 2047) := by
  have hs : IntOp.cmpi .sge n l = 0#1 := by
    show BitVec.ofBool (l.sle n) = 0#1
    have hl : BitVec.ofBool (n.slt l) = 1#1 := hl
    rw [BitVec.sle_eq_not_slt]
    revert hl; cases n.slt l <;> decide
  rw [hs] at h
  have h2 : IntOp.andi (IntOp.cmpi .sge w 0#32) (IntOp.cmpi .slt w 2048#32) = 1#1 := by
    revert h; generalize IntOp.andi _ _ = z; revert z; decide
  obtain ⟨ha, hb⟩ := (andi_one _ _).1 h2
  have ha : BitVec.ofBool ((0#32).sle w) = 1#1 := ha
  have hb : BitVec.ofBool (w.slt 2048#32) = 1#1 := hb
  have ha : (0#32).sle w = true := by revert ha; cases (0#32).sle w <;> decide
  have hb : w.slt 2048#32 = true := by revert hb; cases w.slt 2048#32 <;> decide
  rw [BitVec.sle_iff_toInt_le] at ha
  rw [BitVec.slt_iff_toInt_lt] at hb
  have e0 : (0#32).toInt = 0 := by decide
  have e1 : (2048#32).toInt = 2048 := by decide
  rw [e0] at ha; rw [e1] at hb
  apply BitVec.eq_of_toInt_eq
  rw [BitVec.toInt_ofNat', Int.bmod_eq_of_le] <;> omega

/-- A length of at least one leaves the first slot live. -/
theorem first_live {ln : Vec Ideal Cert.KernelIdeal.S8 .i32} {b : Fin 8} (h : IntOp.cmpi .sge (ln (ix1 b)) 1#32 = 1#1) : live ln b 0 := by
  have h : BitVec.ofBool ((1#32).sle (ln (ix1 b))) = 1#1 := h
  have h : (1#32).sle (ln (ix1 b)) = true := by revert h; cases (1#32).sle (ln (ix1 b)) <;> decide
  rw [BitVec.sle_iff_toInt_le] at h
  have e1 : (1#32).toInt = 1 := by decide
  rw [e1] at h
  show BitVec.ofBool ((BitVec.ofNat 32 0).slt (ln (ix1 b))) = 1#1
  have : (BitVec.ofNat 32 0).slt (ln (ix1 b)) = true := by
    rw [BitVec.slt_iff_toInt_lt, show (BitVec.ofNat 32 0).toInt = 0 by decide]; omega
  rw [this]; rfl

/-- An entry below infinity in size is a real number. -/
theorem real_of_bit {x : EReal} (h : BitVec.ofBool (decide (max x (-x) < Ideal.ofBits .bf16 32640#16)) = 1#1) : x = (x.toReal : EReal) := by
  have hi : Ideal.ofBits .bf16 32640#16 = ⊤ := by simp [Ideal.ofBits, Ideal.ieee]
  rw [hi] at h
  have h : max x (-x) < ⊤ := by
    by_contra hn
    rw [decide_eq_false hn] at h
    exact absurd h (by decide)
  refine (EReal.coe_toReal ?_ ?_).symm
  · rintro rfl; simp at h
  · rintro rfl; simp at h

section
variable {m : (l : Loc Cert.KernelIdeal.nD Cert.KernelIdeal.τ Cert.KernelIdeal.sig) → Buf (Elt Ideal) l} {Q : Vec Ideal Cert.KernelIdeal.S8x1x8x128 .bf16} {K V : Pages}
  {bt : Vec Ideal Cert.KernelIdeal.S8x512 .i32} {ln : Vec Ideal Cert.KernelIdeal.S8 .i32}

/-- In range: the queries are finite, -/
theorem queries_real (H : Holds m Q K V bt ln) (hp : Cert.Pre_KernelIdeal_in_range_KernelIdeal m) (i) : Q i = ((Q i).toReal : EReal) := by
  have main : ∀ (b : Fin 8) (u : Fin 1) (h : Fin 8) (d : Fin 128), Q (ix4 b u h d) = ((Q (ix4 b u h d)).toReal : EReal) := fun b u h d => by
    have hb := congrFun (hp 0).2.2.1 (ix4 b u h d)
    rw [range_queries, H.queries 0] at hb
    exact real_of_bit hb
  have e := ValueIdx.eq_ix4 (n0 := 8) (n1 := 1) (n2 := 8) (n3 := 128) i
  exact (congrArg Q e).trans ((main (i 0) (i 1) (i 2) (i 3)).trans (congrArg (fun i => ((Q i).toReal : EReal)) e.symm))

/-- the keys are finite, -/
theorem keys_real (H : Holds m Q K V bt ln) (hp : Cert.Pre_KernelIdeal_in_range_KernelIdeal m) (i) : K i = ((K i).toReal : EReal) := by
  have main : ∀ (g : Fin 2048) (k : Fin 16) (h : Fin 8) (d : Fin 128), K (ix4 g k h d) = ((K (ix4 g k h d)).toReal : EReal) := fun g k h d => by
    have hb := congrFun (hp ⟨g.val / 512, by show _ < 4; omega⟩).2.2.2 (ix4 (⟨g.val % 512, by omega⟩ : Fin 512) k h d)
    rw [range_keys, H.keys, share_apply,
      show (⟨g.val / 512 * 512 + g.val % 512, by omega⟩ : Fin 2048) = g from Fin.ext (by show g.val / 512 * 512 + g.val % 512 = g.val; omega)] at hb
    exact real_of_bit hb
  have e := ValueIdx.eq_ix4 (n0 := 2048) (n1 := 16) (n2 := 8) (n3 := 128) i
  exact (congrArg K e).trans ((main (i 0) (i 1) (i 2) (i 3)).trans (congrArg (fun i => ((K i).toReal : EReal)) e.symm))

/-- live slots name pages that are there -/
theorem table_in (H : Holds m Q K V bt ln) (hp : Cert.Pre_KernelIdeal_in_range_KernelIdeal m) (b : Fin 8) : InTable bt ln b := fun x hx => by
  have h := congrFun (hp 0).1 (ix2 b x)
  rw [range_table, H.table 0, H.lengths 0] at h
  exact in_table_word _ _ _ h hx

/-- and every query has a live slot. -/
theorem some_live (H : Holds m Q K V bt ln) (hp : Cert.Pre_KernelIdeal_in_range_KernelIdeal m) (b : Fin 8) : ∃ x, live ln b x := by
  have h := congrFun (hp 0).2.1 (ix1 b)
  rw [range_lengths, H.lengths 0] at h
  exact ⟨0, first_live h⟩

/-- The kernel's result is the reference's. -/
theorem result_eq (H : Holds m Q K V bt ln) (hp : Cert.Pre_KernelIdeal_in_range_KernelIdeal m) :
    Cert.KernelIdeal.Exchange.result m = applied (gathered V bt) (weights (numerators (scores Q (gathered K bt) ln))) := by
  have hq := queries_real H hp
  have hk := keys_real H hp
  funext i
  have e := ValueIdx.eq_ix4 (n0 := 8) (n1 := 1) (n2 := 8) (n3 := 128) i
  have main : ∀ (b : Fin 8) (u : Fin 1) (h : Fin 8) (d : Fin 128), Cert.KernelIdeal.Exchange.result m (ix4 b u h d)
      = applied (gathered V bt) (weights (numerators (scores Q (gathered K bt) ln))) (ix4 b u h d) := fun b u h d => by
    have ht := table_in H hp b
    have hl := some_live H hp b
    rw [result_apply H hq hk b h u d (exists_column ht hl h), shares_eq ht Q K V h d, reference_apply Q K V bt ln hq hk b h hl u d]
  exact (congrArg _ e).trans ((main (i 0) (i 1) (i 2) (i 3)).trans (congrArg _ e.symm))

end

/-- On inputs in range the kernel, on four devices each with its quarter of the pages, leaves on every one of
    them the reference's result, and both leave their arguments as they were. -/
theorem algebraic : Cert.algebraic_KernelIdeal_ReferenceIdeal_pre_in_range_KernelIdeal := fun m ρ m' ρ' hp hm => by
  have H : Holds m _ _ _ _ _ := ⟨fun c => (hm c).1, fun c => (hm c).2.1, fun c => (hm c).2.2.1, fun c => (hm c).2.2.2.1, fun c => (hm c).2.2.2.2⟩
  refine ⟨Cert.ReferenceIdeal.Value.res_main_v27 m' 0, ?_, ?_⟩
  · refine (θ_run _ _ _).mono (fun _ h c => ⟨((h.1 c).1).trans ?_, (h.1 c).2⟩) (Cert.KernelIdeal.Exchange.run (F := Ideal) m ρ)
    exact (result_eq H hp).trans (staged m' 0).symm
  · exact (θ_run _ _ _).mono (fun _ h => h 0) (Cert.ReferenceIdeal.Value.run (F := Ideal) m' ρ')

end Cert.Attention
end
-- ==== Proof.lean ====
/-
# The claim

The frames of the printed kernel, of the kernel at the extended reals and of the reference, what the named
constants preserve, and the value of the kernel, assembled behind the programs' stated facts.
-/
module

public import proofs.«01_k».proof.Defs
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Attention.rangeFacts, Attention.wholeRangeFacts,
    Attention.frame_kernel, Attention.frame_ideal, Attention.frame_ideal_in_range, Attention.frame_reference,
    Attention.frame_reference_in_range, Attention.preserves, Attention.algebraic⟩

end Cert.Proof

end
